-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32x2x128x128 : Shape := ⟨4, ![32, 2, 128, 128]⟩
abbrev S32x1x128x128 : Shape := ⟨4, ![32, 1, 128, 128]⟩
abbrev S32x100x2 : Shape := ⟨3, ![32, 100, 2]⟩
abbrev S32x100x1 : Shape := ⟨3, ![32, 100, 1]⟩
abbrev S32x100 : Shape := ⟨2, ![32, 100]⟩
abbrev S_ : Shape := ⟨0, ![]⟩

class Facts : Prop where
  bcast_S_S32x100 : S_.BroadcastsInDim S32x100 (![] : Fin 0 → Fin S32x100.rank)
  bcast_S_S32x1x128x128 : S_.BroadcastsInDim S32x1x128x128 (![] : Fin 0 → Fin S32x1x128x128.rank)
  bcast_S_S32x100x1 : S_.BroadcastsInDim S32x100x1 (![] : Fin 0 → Fin S32x100x1.rank)

variable [Facts]

def fn {F : FTy → Type} [FloatOps F] (main_arg0 : FVec F S32x2x128x128 .f32) (main_arg1 : FVec F S32x1x128x128 .f32) (main_arg2 : FVec F S32x1x128x128 .f32) (main_arg3 : FVec F S32x100x2 .f32) (main_arg4 : FVec F S32x100x1 .f32) (main_arg5 : FVec F S32x1x128x128 .f32) (main_arg6 : IVec S32x100 32) (main_arg7 : IVec S32x100 32) : IVec S32x100 1 × IVec S32x1x128x128 1 × IVec S32x1x128x128 1 × IVec S32x1x128x128 1 × IVec S32x100x1 1 :=
  let main_c : IVec S_ 32 := constantI S_ 32 0#32
  let main_v0 : IVec S32x100 32 := broadcastInDim S32x100 ![] bcast_S_S32x100 main_c
  let main_v1 : IVec S32x100 1 := cmpi .sge main_arg6 main_v0
  let main_c_0 : IVec S_ 32 := constantI S_ 32 16384#32
  let main_v2 : IVec S32x100 32 := broadcastInDim S32x100 ![] bcast_S_S32x100 main_c_0
  let main_v3 : IVec S32x100 1 := cmpi .slt main_arg6 main_v2
  let main_v4 : IVec S32x100 1 := andi main_v1 main_v3
  let main_cst : FVec F S_ .f32 := constant S_ .f32 0xBF800000#32
  let main_v5 : FVec F S32x1x128x128 .f32 := broadcastInDim S32x1x128x128 ![] bcast_S_S32x1x128x128 main_cst
  let main_v6 : IVec S32x1x128x128 1 := cmpf .ogt main_arg2 main_v5
  let main_cst_1 : FVec F S_ .f32 := constant S_ .f32 0xBF800000#32
  let main_v7 : FVec F S32x1x128x128 .f32 := broadcastInDim S32x1x128x128 ![] bcast_S_S32x1x128x128 main_cst_1
  let main_v8 : IVec S32x1x128x128 1 := cmpf .ogt main_arg5 main_v7
  let main_v9 : FVec F S32x1x128x128 .f32 := Host.absf main_arg1
  let main_cst_2 : FVec F S_ .f32 := constant S_ .f32 0x7F800000#32
  let main_v10 : FVec F S32x1x128x128 .f32 := broadcastInDim S32x1x128x128 ![] bcast_S_S32x1x128x128 main_cst_2
  let main_v11 : IVec S32x1x128x128 1 := cmpf .olt main_v9 main_v10
  let main_v12 : FVec F S32x100x1 .f32 := Host.absf main_arg4
  let main_cst_3 : FVec F S_ .f32 := constant S_ .f32 0x7F800000#32
  let main_v13 : FVec F S32x100x1 .f32 := broadcastInDim S32x100x1 ![] bcast_S_S32x100x1 main_cst_3
  let main_v14 : IVec S32x100x1 1 := cmpf .olt main_v12 main_v13
  (main_v4, main_v6, main_v8, main_v11, main_v14)
-- ==== Kernel.lean ====
abbrev S32x2x128x128 : Shape := ⟨4, ![32, 2, 128, 128]⟩
abbrev S32x1x128x128 : Shape := ⟨4, ![32, 1, 128, 128]⟩
abbrev S32x100x2 : Shape := ⟨3, ![32, 100, 2]⟩
abbrev S32x100x1 : Shape := ⟨3, ![32, 100, 1]⟩
abbrev S32x100 : Shape := ⟨2, ![32, 100]⟩
abbrev S_ : Shape := ⟨0, ![]⟩
abbrev S32x100x6 : Shape := ⟨3, ![32, 100, 6]⟩
abbrev S32x128x16 : Shape := ⟨3, ![32, 128, 16]⟩
abbrev S1x128 : Shape := ⟨2, ![1, 128]⟩
abbrev S1x2x128x128 : Shape := ⟨4, ![1, 2, 128, 128]⟩
abbrev S1x1x128x128 : Shape := ⟨4, ![1, 1, 128, 128]⟩
abbrev S1x128x16 : Shape := ⟨3, ![1, 128, 16]⟩
abbrev S128x128 : Shape := ⟨2, ![128, 128]⟩
abbrev S128x16 : Shape := ⟨2, ![128, 16]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S4x128 : Shape := ⟨2, ![4, 128]⟩
abbrev S128x4 : Shape := ⟨2, ![128, 4]⟩
abbrev S128x1 : Shape := ⟨2, ![128, 1]⟩
abbrev S128x384 : Shape := ⟨2, ![128, 384]⟩
abbrev S128 : Shape := ⟨1, ![128]⟩
abbrev S1x128x1 : Shape := ⟨3, ![1, 128, 1]⟩

abbrev nBuf : Space → Nat
  | .hbm => 74
  | .vmem => 11
  | .smem => 0
  | _ => 0

abbrev bufTy : (tb : Table) → Fin (tcTables nBuf tb) → BufTy
  | .hbm, ⟨0, _⟩ => ⟨S32x2x128x128, .f32⟩
  | .hbm, ⟨1, _⟩ => ⟨S32x1x128x128, .f32⟩
  | .hbm, ⟨2, _⟩ => ⟨S32x1x128x128, .f32⟩
  | .hbm, ⟨3, _⟩ => ⟨S32x100x2, .f32⟩
  | .hbm, ⟨4, _⟩ => ⟨S32x100x1, .f32⟩
  | .hbm, ⟨5, _⟩ => ⟨S32x1x128x128, .f32⟩
  | .hbm, ⟨6, _⟩ => ⟨S32x100, .i32⟩
  | .hbm, ⟨7, _⟩ => ⟨S32x100, .i32⟩
  | .hbm, ⟨8, _⟩ => ⟨S32x100, .f32⟩
  | .hbm, ⟨9, _⟩ => ⟨S_, .i32⟩
  | .hbm, ⟨10, _⟩ => ⟨S_, .i32⟩
  | .hbm, ⟨11, _⟩ => ⟨S32x100, .i32⟩
  | .hbm, ⟨12, _⟩ => ⟨S32x100, .i32⟩
  | .hbm, ⟨13, _⟩ => ⟨S32x100, .i32⟩
  | .hbm, ⟨14, _⟩ => ⟨S_, .i32⟩
  | .hbm, ⟨15, _⟩ => ⟨S32x100, .i32⟩
  | .hbm, ⟨16, _⟩ => ⟨S32x100, .i1⟩
  | .hbm, ⟨17, _⟩ => ⟨S32x100, .i32⟩
  | .hbm, ⟨18, _⟩ => ⟨S32x100, .i32⟩
  | .hbm, ⟨19, _⟩ => ⟨S_, .i32⟩
  | .hbm, ⟨20, _⟩ => ⟨S32x100, .i32⟩
  | .hbm, ⟨21, _⟩ => ⟨S32x100, .i1⟩
  | .hbm, ⟨22, _⟩ => ⟨S32x100, .i1⟩
  | .hbm, ⟨23, _⟩ => ⟨S_, .i32⟩
  | .hbm, ⟨24, _⟩ => ⟨S32x100, .i32⟩
  | .hbm, ⟨25, _⟩ => ⟨S32x100, .i32⟩
  | .hbm, ⟨26, _⟩ => ⟨S32x100, .i32⟩
  | .hbm, ⟨27, _⟩ => ⟨S32x100, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S32x100, .i32⟩
  | .hbm, ⟨35, _⟩ => ⟨S32x100, .i32⟩
  | .hbm, ⟨36, _⟩ => ⟨S_, .i32⟩
  | .hbm, ⟨37, _⟩ => ⟨S32x100, .i32⟩
  | .hbm, ⟨38, _⟩ => ⟨S32x100, .i1⟩
  | .hbm, ⟨39, _⟩ => ⟨S_, .i32⟩
  | .hbm, ⟨40, _⟩ => ⟨S32x100, .i32⟩
  | .hbm, ⟨41, _⟩ => ⟨S32x100, .i1⟩
  | .hbm, ⟨42, _⟩ => ⟨S_, .i32⟩
  | .hbm, ⟨43, _⟩ => ⟨S_, .i1⟩
  | .hbm, ⟨44, _⟩ => ⟨S32x100, .i1⟩
  | .hbm, ⟨45, _⟩ => ⟨S32x100, .i1⟩
  | .hbm, ⟨46, _⟩ => ⟨S32x100, .i1⟩
  | .hbm, ⟨47, _⟩ => ⟨S32x100, .i32⟩
  | .hbm, ⟨48, _⟩ => ⟨S32x100, .i32⟩
  | .hbm, ⟨49, _⟩ => ⟨S32x100, .i32⟩
  | .hbm, ⟨50, _⟩ => ⟨S32x100, .f32⟩
  | .hbm, ⟨51, _⟩ => ⟨S32x100x1, .f32⟩
  | .hbm, ⟨52, _⟩ => ⟨S32x100, .f32⟩
  | .hbm, ⟨53, _⟩ => ⟨S32x100x1, .f32⟩
  | .hbm, ⟨54, _⟩ => ⟨S32x100, .f32⟩
  | .hbm, ⟨55, _⟩ => ⟨S32x100, .f32⟩
  | .hbm, ⟨56, _⟩ => ⟨S32x100x1, .f32⟩
  | .hbm, ⟨57, _⟩ => ⟨S32x100x1, .f32⟩
  | .hbm, ⟨58, _⟩ => ⟨S32x100x1, .f32⟩
  | .hbm, ⟨59, _⟩ => ⟨S32x100x1, .f32⟩
  | .hbm, ⟨60, _⟩ => ⟨S32x100x1, .f32⟩
  | .hbm, ⟨61, _⟩ => ⟨S32x100x1, .f32⟩
  | .hbm, ⟨62, _⟩ => ⟨S32x100x6, .f32⟩
  | .hbm, ⟨63, _⟩ => ⟨S_, .i32⟩
  | .hbm, ⟨64, _⟩ => ⟨S_, .f32⟩
  | .hbm, ⟨65, _⟩ => ⟨S32x128x16, .f32⟩
  | .hbm, ⟨66, _⟩ => ⟨S1x128, .f32⟩
  | .hbm, ⟨67, _⟩ => ⟨S1x1, .f32⟩
  | .hbm, ⟨68, _⟩ => ⟨S_, .f32⟩
  | .hbm, ⟨69, _⟩ => ⟨S1x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1x2x128x128, .f32⟩
  | .local _ .vmem, ⟨1, _⟩ => ⟨S1x2x128x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128x128, .f32⟩
  | .local _ .vmem, ⟨7, _⟩ => ⟨S1x1x128x128, .f32⟩
  | .local _ .vmem, ⟨8, _⟩ => ⟨S1x128x16, .f32⟩
  | .local _ .vmem, ⟨9, _⟩ => ⟨S1x128x16, .f32⟩
  | .local _ .vmem, ⟨10, _⟩ => ⟨S1x128, .f32⟩
  | _, _ => ⟨S32x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_1 : Ref sig .tc := ⟨.hbm, 63, rfl⟩
abbrev main_call2_v0 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst : Ref sig .tc := ⟨.hbm, 71, rfl⟩
abbrev main_v23 : Ref sig .tc := ⟨.hbm, 72, rfl⟩
abbrev main_v24 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c100_i32 : BitVec 32 := 100#32
  let v19 : BitVec 32 := Scalar.addi c0_i32 c100_i32
  let c1_i32 : BitVec 32 := 1#32
  ⟨c0_i32, v19, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x2x128x128 : Shape := ⟨4, ![32, 2, 128, 128]⟩
abbrev S32x1x128x128 : Shape := ⟨4, ![32, 1, 128, 128]⟩
abbrev S32x100x2 : Shape := ⟨3, ![32, 100, 2]⟩
abbrev S32x100x1 : Shape := ⟨3, ![32, 100, 1]⟩
abbrev S32x100 : Shape := ⟨2, ![32, 100]⟩
abbrev S32x128x128x2 : Shape := ⟨4, ![32, 128, 128, 2]⟩
abbrev S32x16384x2 : Shape := ⟨3, ![32, 16384, 2]⟩
abbrev S_ : Shape := ⟨0, ![]⟩
abbrev S32x100x2x1 : Shape := ⟨4, ![32, 100, 2, 1]⟩
abbrev S1 : Shape := ⟨1, ![1]⟩
abbrev S1x1x1x1 : Shape := ⟨4, ![1, 1, 1, 1]⟩
abbrev S32x128x128x1 : Shape := ⟨4, ![32, 128, 128, 1]⟩
abbrev S32x16384x1 : Shape := ⟨3, ![32, 16384, 1]⟩
abbrev S1x1x1 : Shape := ⟨3, ![1, 1, 1]⟩
abbrev S32x1x16384 : Shape := ⟨3, ![32, 1, 16384]⟩
abbrev S32x1x100 : Shape := ⟨3, ![32, 1, 100]⟩
abbrev S32x100x5 : Shape := ⟨3, ![32, 100, 5]⟩
abbrev S3200x5 : Shape := ⟨2, ![3200, 5]⟩
abbrev S3200x2 : Shape := ⟨2, ![3200, 2]⟩
abbrev S3200x1 : Shape := ⟨2, ![3200, 1]⟩
abbrev S3200 : Shape := ⟨1, ![3200]⟩
abbrev S3200x4 : Shape := ⟨2, ![3200, 4]⟩
abbrev S3200x2x2 : Shape := ⟨3, ![3200, 2, 2]⟩
abbrev S3200x2x1 : Shape := ⟨3, ![3200, 2, 1]⟩
abbrev S2x2 : Shape := ⟨2, ![2, 2]⟩
abbrev S1x2x2 : Shape := ⟨3, ![1, 2, 2]⟩
abbrev S2 : Shape := ⟨1, ![2]⟩
abbrev S2x1 : Shape := ⟨2, ![2, 1]⟩

abbrev nBuf : Space → Nat
  | .hbm => 532
  | .vmem => 0
  | .smem => 0
  | _ => 0

abbrev hbmTy0_0 (i : Nat) : BufTy := match i % 128 with
  | 0 => ⟨S32x2x128x128, .f32⟩
  | 1 => ⟨S32x1x128x128, .f32⟩
  | 2 => ⟨S32x1x128x128, .f32⟩
  | 3 => ⟨S32x100x2, .f32⟩
  | 4 => ⟨S32x100x1, .f32⟩
  | 5 => ⟨S32x1x128x128, .f32⟩
  | 6 => ⟨S32x100, .i32⟩
  | 7 => ⟨S32x100, .i32⟩
  | 8 => ⟨S32x128x128x2, .f32⟩
  | 9 => ⟨S32x16384x2, .f32⟩
  | 10 => ⟨S32x100x1, .i32⟩
  | 11 => ⟨S32x100x2, .i32⟩
  | 12 => ⟨S_, .i32⟩
  | 13 => ⟨S32x100x2, .i32⟩
  | 14 => ⟨S32x100x2, .i1⟩
  | 15 => ⟨S_, .i32⟩
  | 16 => ⟨S32x100x2, .i32⟩
  | 17 => ⟨S32x100x2, .i32⟩
  | 18 => ⟨S32x100x2, .i32⟩
  | 19 => ⟨S32x100x2x1, .i32⟩
  | 20 => ⟨S1, .i32⟩
  | 21 => ⟨S_, .i32⟩
  | 22 => ⟨S32x100x2x1, .i32⟩
  | 23 => ⟨S32x100x2x1, .i1⟩
  | 24 => ⟨S1x1x1x1, .i32⟩
  | 25 => ⟨S32x100x2x1, .i32⟩
  | 26 => ⟨S32x100x2x1, .i1⟩
  | 27 => ⟨S32x100x2x1, .i1⟩
  | 28 => ⟨S_, .i1⟩
  | 29 => ⟨S32x100x2, .i1⟩
  | 30 => ⟨S32x100x2, .f32⟩
  | 31 => ⟨S_, .f32⟩
  | 32 => ⟨S32x100x2, .f32⟩
  | 33 => ⟨S32x100x2, .f32⟩
  | 34 => ⟨S32x100, .f32⟩
  | 35 => ⟨S32x100x1, .f32⟩
  | 36 => ⟨S32x100x2, .f32⟩
  | 37 => ⟨S32x128x128x1, .f32⟩
  | 38 => ⟨S32x16384x1, .f32⟩
  | 39 => ⟨S32x100x1, .i32⟩
  | 40 => ⟨S_, .i32⟩
  | 41 => ⟨S32x100x1, .i32⟩
  | 42 => ⟨S32x100x1, .i1⟩
  | 43 => ⟨S_, .i32⟩
  | 44 => ⟨S32x100x1, .i32⟩
  | 45 => ⟨S32x100x1, .i32⟩
  | 46 => ⟨S32x100x1, .i32⟩
  | 47 => ⟨S1, .i32⟩
  | 48 => ⟨S_, .i32⟩
  | 49 => ⟨S32x100x1, .i32⟩
  | 50 => ⟨S32x100x1, .i1⟩
  | 51 => ⟨S1x1x1, .i32⟩
  | 52 => ⟨S32x100x1, .i32⟩
  | 53 => ⟨S32x100x1, .i1⟩
  | 54 => ⟨S32x100x1, .i1⟩
  | 55 => ⟨S_, .i1⟩
  | 56 => ⟨S32x100, .i1⟩
  | 57 => ⟨S32x100x1, .f32⟩
  | 58 => ⟨S32x100x1, .i1⟩
  | 59 => ⟨S_, .f32⟩
  | 60 => ⟨S32x100x1, .f32⟩
  | 61 => ⟨S32x100x1, .f32⟩
  | 62 => ⟨S32x100x1, .f32⟩
  | 63 => ⟨S32x1x16384, .f32⟩
  | 64 => ⟨S32x1x100, .f32⟩
  | 65 => ⟨S32x1x100, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S32x1x100, .i32⟩
  | 73 => ⟨S32x1x100, .i32⟩
  | 74 => ⟨S_, .i32⟩
  | 75 => ⟨S32x1x100, .i32⟩
  | 76 => ⟨S32x1x100, .i1⟩
  | 77 => ⟨S_, .i32⟩
  | 78 => ⟨S32x1x100, .i32⟩
  | 79 => ⟨S32x1x100, .i1⟩
  | 80 => ⟨S_, .i32⟩
  | 81 => ⟨S_, .i1⟩
  | 82 => ⟨S32x1x100, .i1⟩
  | 83 => ⟨S32x1x100, .i1⟩
  | 84 => ⟨S32x1x100, .i1⟩
  | 85 => ⟨S32x1x100, .i32⟩
  | 86 => ⟨S32x1x100, .i32⟩
  | 87 => ⟨S32x1x100, .i32⟩
  | 88 => ⟨S_, .i32⟩
  | 89 => ⟨S_, .i32⟩
  | 90 => ⟨S32x1x100, .i32⟩
  | 91 => ⟨S32x1x100, .i32⟩
  | 92 => ⟨S32x1x100, .i32⟩
  | 93 => ⟨S_, .i32⟩
  | 94 => ⟨S32x1x100, .i32⟩
  | 95 => ⟨S32x1x100, .i1⟩
  | 96 => ⟨S32x1x100, .i32⟩
  | 97 => ⟨S32x1x100, .i32⟩
  | 98 => ⟨S_, .i32⟩
  | 99 => ⟨S32x1x100, .i32⟩
  | 100 => ⟨S32x1x100, .i1⟩
  | 101 => ⟨S32x1x100, .i1⟩
  | 102 => ⟨S_, .i32⟩
  | 103 => ⟨S32x1x100, .i32⟩
  | 104 => ⟨S32x1x100, .i32⟩
  | 105 => ⟨S32x1x100, .i32⟩
  | 106 => ⟨S32x1x100, .f32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S32x1x100, .i32⟩
  | 114 => ⟨S32x1x100, .i32⟩
  | 115 => ⟨S_, .i32⟩
  | 116 => ⟨S32x1x100, .i32⟩
  | 117 => ⟨S32x1x100, .i1⟩
  | 118 => ⟨S_, .i32⟩
  | 119 => ⟨S32x1x100, .i32⟩
  | 120 => ⟨S32x1x100, .i1⟩
  | 121 => ⟨S_, .i32⟩
  | 122 => ⟨S_, .i1⟩
  | 123 => ⟨S32x1x100, .i1⟩
  | 124 => ⟨S32x1x100, .i1⟩
  | 125 => ⟨S32x1x100, .i1⟩
  | 126 => ⟨S32x1x100, .i32⟩
  | 127 => ⟨S32x1x100, .i32⟩
  | _ => ⟨S32x2x128x128, .f32⟩

abbrev hbmTy0_1 (i : Nat) : BufTy := match i % 128 with
  | 0 => ⟨S32x1x100, .i32⟩
  | 1 => ⟨S32x1x100, .f32⟩
  | 2 => ⟨S32x100, .f32⟩
  | 3 => ⟨S32x100, .f32⟩
  | 4 => ⟨S32x100, .i32⟩
  | 5 => ⟨S32x100, .f32⟩
  | 6 => ⟨S_, .i32⟩
  | 7 => ⟨S32x100, .i32⟩
  | 8 => ⟨S32x100, .i1⟩
  | 9 => ⟨S_, .i32⟩
  | 10 => ⟨S32x100, .i32⟩
  | 11 => ⟨S32x100, .i32⟩
  | 12 => ⟨S32x100, .i32⟩
  | 13 => ⟨S32x100x1, .i32⟩
  | 14 => ⟨S1, .i32⟩
  | 15 => ⟨S_, .i32⟩
  | 16 => ⟨S32x100x1, .i32⟩
  | 17 => ⟨S32x100x1, .i1⟩
  | 18 => ⟨S1x1x1, .i32⟩
  | 19 => ⟨S32x100x1, .i32⟩
  | 20 => ⟨S32x100x1, .i1⟩
  | 21 => ⟨S32x100x1, .i1⟩
  | 22 => ⟨S_, .i1⟩
  | 23 => ⟨S32x100, .i1⟩
  | 24 => ⟨S32x100, .f32⟩
  | 25 => ⟨S_, .f32⟩
  | 26 => ⟨S32x100, .f32⟩
  | 27 => ⟨S32x100, .f32⟩
  | 28 => ⟨S32x100, .f32⟩
  | 29 => ⟨S_, .i32⟩
  | 30 => ⟨S32x100, .i32⟩
  | 31 => ⟨S32x100, .i1⟩
  | 32 => ⟨S_, .i32⟩
  | 33 => ⟨S32x100, .i32⟩
  | 34 => ⟨S32x100, .i32⟩
  | 35 => ⟨S32x100, .i32⟩
  | 36 => ⟨S32x100x1, .i32⟩
  | 37 => ⟨S1, .i32⟩
  | 38 => ⟨S_, .i32⟩
  | 39 => ⟨S32x100x1, .i32⟩
  | 40 => ⟨S32x100x1, .i1⟩
  | 41 => ⟨S1x1x1, .i32⟩
  | 42 => ⟨S32x100x1, .i32⟩
  | 43 => ⟨S32x100x1, .i1⟩
  | 44 => ⟨S32x100x1, .i1⟩
  | 45 => ⟨S_, .i1⟩
  | 46 => ⟨S32x100, .i1⟩
  | 47 => ⟨S32x100, .f32⟩
  | 48 => ⟨S_, .f32⟩
  | 49 => ⟨S32x100, .f32⟩
  | 50 => ⟨S32x100, .f32⟩
  | 51 => ⟨S32x100x1, .f32⟩
  | 52 => ⟨S32x100x1, .f32⟩
  | 53 => ⟨S32x100x2, .f32⟩
  | 54 => ⟨S32x100x2, .f32⟩
  | 55 => ⟨S_, .f32⟩
  | 56 => ⟨S32x100x2, .f32⟩
  | 57 => ⟨S32x100x2, .f32⟩
  | 58 => ⟨S32x100x2, .f32⟩
  | 59 => ⟨S_, .f32⟩
  | 60 => ⟨S32x100x1, .f32⟩
  | 61 => ⟨S32x100x1, .f32⟩
  | 62 => ⟨S32x100x1, .f32⟩
  | 63 => ⟨S32x100x5, .f32⟩
  | 64 => ⟨S32x1x16384, .f32⟩
  | 65 => ⟨S32x1x100, .f32⟩
  | 66 => ⟨S32x1x100, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S32x1x100, .i32⟩
  | 74 => ⟨S32x1x100, .i32⟩
  | 75 => ⟨S_, .i32⟩
  | 76 => ⟨S32x1x100, .i32⟩
  | 77 => ⟨S32x1x100, .i1⟩
  | 78 => ⟨S_, .i32⟩
  | 79 => ⟨S32x1x100, .i32⟩
  | 80 => ⟨S32x1x100, .i1⟩
  | 81 => ⟨S_, .i32⟩
  | 82 => ⟨S_, .i1⟩
  | 83 => ⟨S32x1x100, .i1⟩
  | 84 => ⟨S32x1x100, .i1⟩
  | 85 => ⟨S32x1x100, .i1⟩
  | 86 => ⟨S32x1x100, .i32⟩
  | 87 => ⟨S32x1x100, .i32⟩
  | 88 => ⟨S32x1x100, .i32⟩
  | 89 => ⟨S_, .i32⟩
  | 90 => ⟨S_, .i32⟩
  | 91 => ⟨S32x1x100, .i32⟩
  | 92 => ⟨S32x1x100, .i32⟩
  | 93 => ⟨S32x1x100, .i32⟩
  | 94 => ⟨S_, .i32⟩
  | 95 => ⟨S32x1x100, .i32⟩
  | 96 => ⟨S32x1x100, .i1⟩
  | 97 => ⟨S32x1x100, .i32⟩
  | 98 => ⟨S32x1x100, .i32⟩
  | 99 => ⟨S_, .i32⟩
  | 100 => ⟨S32x1x100, .i32⟩
  | 101 => ⟨S32x1x100, .i1⟩
  | 102 => ⟨S32x1x100, .i1⟩
  | 103 => ⟨S_, .i32⟩
  | 104 => ⟨S32x1x100, .i32⟩
  | 105 => ⟨S32x1x100, .i32⟩
  | 106 => ⟨S32x1x100, .i32⟩
  | 107 => ⟨S32x1x100, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S32x1x100, .i32⟩
  | 115 => ⟨S32x1x100, .i32⟩
  | 116 => ⟨S_, .i32⟩
  | 117 => ⟨S32x1x100, .i32⟩
  | 118 => ⟨S32x1x100, .i1⟩
  | 119 => ⟨S_, .i32⟩
  | 120 => ⟨S32x1x100, .i32⟩
  | 121 => ⟨S32x1x100, .i1⟩
  | 122 => ⟨S_, .i32⟩
  | 123 => ⟨S_, .i1⟩
  | 124 => ⟨S32x1x100, .i1⟩
  | 125 => ⟨S32x1x100, .i1⟩
  | 126 => ⟨S32x1x100, .i1⟩
  | 127 => ⟨S32x1x100, .i32⟩
  | _ => ⟨S32x2x128x128, .f32⟩

abbrev hbmTy0_2 (i : Nat) : BufTy := match i % 128 with
  | 0 => ⟨S32x1x100, .i32⟩
  | 1 => ⟨S32x1x100, .i32⟩
  | 2 => ⟨S32x1x100, .f32⟩
  | 3 => ⟨S32x100, .f32⟩
  | 4 => ⟨S32x100, .f32⟩
  | 5 => ⟨S32x100, .i32⟩
  | 6 => ⟨S32x100, .f32⟩
  | 7 => ⟨S_, .i32⟩
  | 8 => ⟨S32x100, .i32⟩
  | 9 => ⟨S32x100, .i1⟩
  | 10 => ⟨S_, .i32⟩
  | 11 => ⟨S32x100, .i32⟩
  | 12 => ⟨S32x100, .i32⟩
  | 13 => ⟨S32x100, .i32⟩
  | 14 => ⟨S32x100x1, .i32⟩
  | 15 => ⟨S1, .i32⟩
  | 16 => ⟨S_, .i32⟩
  | 17 => ⟨S32x100x1, .i32⟩
  | 18 => ⟨S32x100x1, .i1⟩
  | 19 => ⟨S1x1x1, .i32⟩
  | 20 => ⟨S32x100x1, .i32⟩
  | 21 => ⟨S32x100x1, .i1⟩
  | 22 => ⟨S32x100x1, .i1⟩
  | 23 => ⟨S_, .i1⟩
  | 24 => ⟨S32x100, .i1⟩
  | 25 => ⟨S32x100, .f32⟩
  | 26 => ⟨S_, .f32⟩
  | 27 => ⟨S32x100, .f32⟩
  | 28 => ⟨S32x100, .f32⟩
  | 29 => ⟨S32x100, .f32⟩
  | 30 => ⟨S_, .i32⟩
  | 31 => ⟨S32x100, .i32⟩
  | 32 => ⟨S32x100, .i1⟩
  | 33 => ⟨S_, .i32⟩
  | 34 => ⟨S32x100, .i32⟩
  | 35 => ⟨S32x100, .i32⟩
  | 36 => ⟨S32x100, .i32⟩
  | 37 => ⟨S32x100x1, .i32⟩
  | 38 => ⟨S1, .i32⟩
  | 39 => ⟨S_, .i32⟩
  | 40 => ⟨S32x100x1, .i32⟩
  | 41 => ⟨S32x100x1, .i1⟩
  | 42 => ⟨S1x1x1, .i32⟩
  | 43 => ⟨S32x100x1, .i32⟩
  | 44 => ⟨S32x100x1, .i1⟩
  | 45 => ⟨S32x100x1, .i1⟩
  | 46 => ⟨S_, .i1⟩
  | 47 => ⟨S32x100, .i1⟩
  | 48 => ⟨S32x100, .f32⟩
  | 49 => ⟨S_, .f32⟩
  | 50 => ⟨S32x100, .f32⟩
  | 51 => ⟨S32x100, .f32⟩
  | 52 => ⟨S32x100x1, .f32⟩
  | 53 => ⟨S32x100x1, .f32⟩
  | 54 => ⟨S32x100x2, .f32⟩
  | 55 => ⟨S32x100x2, .f32⟩
  | 56 => ⟨S_, .f32⟩
  | 57 => ⟨S32x100x2, .f32⟩
  | 58 => ⟨S32x100x2, .f32⟩
  | 59 => ⟨S32x100x2, .f32⟩
  | 60 => ⟨S_, .f32⟩
  | 61 => ⟨S32x100x1, .f32⟩
  | 62 => ⟨S32x100x1, .f32⟩
  | 63 => ⟨S32x100x1, .f32⟩
  | 64 => ⟨S32x100x5, .f32⟩
  | 65 => ⟨S3200x5, .f32⟩
  | 66 => ⟨S3200x2, .f32⟩
  | 67 => ⟨S3200x2, .f32⟩
  | 68 => ⟨S_, .f32⟩
  | 69 => ⟨S_, .f32⟩
  | 70 => ⟨S_, .f32⟩
  | 71 => ⟨S3200x2, .f32⟩
  | 72 => ⟨S3200x2, .f32⟩
  | 73 => ⟨S_, .f32⟩
  | 74 => ⟨S3200x2, .f32⟩
  | 75 => ⟨S3200x2, .f32⟩
  | 76 => ⟨S3200x1, .f32⟩
  | 77 => ⟨S3200, .f32⟩
  | 78 => ⟨S_, .f32⟩
  | 79 => ⟨S3200, .f32⟩
  | 80 => ⟨S3200, .f32⟩
  | 81 => ⟨S3200, .f32⟩
  | 82 => ⟨S3200, .f32⟩
  | 83 => ⟨S3200, .f32⟩
  | 84 => ⟨S3200x1, .f32⟩
  | 85 => ⟨S3200x1, .f32⟩
  | 86 => ⟨S3200x1, .f32⟩
  | 87 => ⟨S3200x1, .f32⟩
  | 88 => ⟨S3200x4, .f32⟩
  | 89 => ⟨S3200x2x2, .f32⟩
  | 90 => ⟨S3200x2x1, .f32⟩
  | 91 => ⟨S2x2, .i32⟩
  | 92 => ⟨S2x2, .i32⟩
  | 93 => ⟨S_, .i32⟩
  | 94 => ⟨S2x2, .i32⟩
  | 95 => ⟨S2x2, .i32⟩
  | 96 => ⟨S2x2, .i1⟩
  | 97 => ⟨S2x2, .f32⟩
  | 98 => ⟨S1x2x2, .f32⟩
  | 99 => ⟨S3200x2x2, .f32⟩
  | 100 => ⟨S3200x2x2, .f32⟩
  | 101 => ⟨S3200x2x2, .f32⟩
  | 102 => ⟨S_, .f32⟩
  | 103 => ⟨S3200x2x2, .f32⟩
  | 104 => ⟨S3200x2x2, .f32⟩
  | 105 => ⟨S3200x5, .f32⟩
  | 106 => ⟨S3200x2, .f32⟩
  | 107 => ⟨S3200x2, .f32⟩
  | 108 => ⟨S_, .f32⟩
  | 109 => ⟨S_, .f32⟩
  | 110 => ⟨S_, .f32⟩
  | 111 => ⟨S3200x2, .f32⟩
  | 112 => ⟨S3200x2, .f32⟩
  | 113 => ⟨S_, .f32⟩
  | 114 => ⟨S3200x2, .f32⟩
  | 115 => ⟨S3200x2, .f32⟩
  | 116 => ⟨S3200x1, .f32⟩
  | 117 => ⟨S3200, .f32⟩
  | 118 => ⟨S_, .f32⟩
  | 119 => ⟨S3200, .f32⟩
  | 120 => ⟨S3200, .f32⟩
  | 121 => ⟨S3200, .f32⟩
  | 122 => ⟨S3200, .f32⟩
  | 123 => ⟨S3200, .f32⟩
  | 124 => ⟨S3200x1, .f32⟩
  | 125 => ⟨S3200x1, .f32⟩
  | 126 => ⟨S3200x1, .f32⟩
  | 127 => ⟨S3200x1, .f32⟩
  | _ => ⟨S32x2x128x128, .f32⟩

abbrev hbmTy0_3 (i : Nat) : BufTy := match i % 128 with
  | 0 => ⟨S3200x4, .f32⟩
  | 1 => ⟨S3200x2x2, .f32⟩
  | 2 => ⟨S3200x2x1, .f32⟩
  | 3 => ⟨S2x2, .i32⟩
  | 4 => ⟨S2x2, .i32⟩
  | 5 => ⟨S_, .i32⟩
  | 6 => ⟨S2x2, .i32⟩
  | 7 => ⟨S2x2, .i32⟩
  | 8 => ⟨S2x2, .i1⟩
  | 9 => ⟨S2x2, .f32⟩
  | 10 => ⟨S1x2x2, .f32⟩
  | 11 => ⟨S3200x2x2, .f32⟩
  | 12 => ⟨S3200x2x2, .f32⟩
  | 13 => ⟨S3200x2x2, .f32⟩
  | 14 => ⟨S_, .f32⟩
  | 15 => ⟨S3200x2x2, .f32⟩
  | 16 => ⟨S3200x2x2, .f32⟩
  | 17 => ⟨S3200x2, .f32⟩
  | 18 => ⟨S3200x2, .f32⟩
  | 19 => ⟨S_, .f32⟩
  | 20 => ⟨S3200, .f32⟩
  | 21 => ⟨S3200x2x2, .f32⟩
  | 22 => ⟨S3200x2x2, .f32⟩
  | 23 => ⟨S3200x2x2, .f32⟩
  | 24 => ⟨S3200x2x2, .f32⟩
  | 25 => ⟨S3200x2x2, .f32⟩
  | 26 => ⟨S3200x2x2, .f32⟩
  | 27 => ⟨S3200x2x2, .f32⟩
  | 28 => ⟨S3200x2x2, .f32⟩
  | 29 => ⟨S2, .i32⟩
  | 30 => ⟨S2, .i32⟩
  | 31 => ⟨S_, .i32⟩
  | 32 => ⟨S2, .i32⟩
  | 33 => ⟨S2, .i1⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i1⟩
  | 41 => ⟨S_, .i32⟩
  | 42 => ⟨S2, .i32⟩
  | 43 => ⟨S2, .i32⟩
  | 44 => ⟨S2, .i32⟩
  | 45 => ⟨S2x1, .i32⟩
  | 46 => ⟨S2x1, .i32⟩
  | 47 => ⟨S2x2, .i32⟩
  | 48 => ⟨S3200x2, .f32⟩
  | 49 => ⟨S2, .i32⟩
  | 50 => ⟨S2, .i32⟩
  | 51 => ⟨S_, .i32⟩
  | 52 => ⟨S2, .i32⟩
  | 53 => ⟨S2, .i1⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i1⟩
  | 61 => ⟨S_, .i32⟩
  | 62 => ⟨S2, .i32⟩
  | 63 => ⟨S2, .i32⟩
  | 64 => ⟨S2, .i32⟩
  | 65 => ⟨S2x1, .i32⟩
  | 66 => ⟨S2x1, .i32⟩
  | 67 => ⟨S2x2, .i32⟩
  | 68 => ⟨S3200x2, .f32⟩
  | 69 => ⟨S3200x2, .f32⟩
  | 70 => ⟨S_, .f32⟩
  | 71 => ⟨S3200, .f32⟩
  | 72 => ⟨S3200x2, .f32⟩
  | 73 => ⟨S_, .f32⟩
  | 74 => ⟨S3200, .f32⟩
  | 75 => ⟨S3200, .f32⟩
  | 76 => ⟨S3200x2x2, .f32⟩
  | 77 => ⟨S2, .i32⟩
  | 78 => ⟨S2, .i32⟩
  | 79 => ⟨S_, .i32⟩
  | 80 => ⟨S2, .i32⟩
  | 81 => ⟨S2, .i1⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i1⟩
  | 89 => ⟨S_, .i32⟩
  | 90 => ⟨S2, .i32⟩
  | 91 => ⟨S2, .i32⟩
  | 92 => ⟨S2, .i32⟩
  | 93 => ⟨S2x1, .i32⟩
  | 94 => ⟨S2x1, .i32⟩
  | 95 => ⟨S2x2, .i32⟩
  | 96 => ⟨S3200x2, .f32⟩
  | 97 => ⟨S_, .f32⟩
  | 98 => ⟨S3200, .f32⟩
  | 99 => ⟨S3200x1, .f32⟩
  | 100 => ⟨S3200, .f32⟩
  | 101 => ⟨S3200x1, .f32⟩
  | 102 => ⟨S3200, .f32⟩
  | 103 => ⟨S3200, .f32⟩
  | 104 => ⟨S3200x1, .f32⟩
  | 105 => ⟨S3200, .f32⟩
  | 106 => ⟨S3200x1, .f32⟩
  | 107 => ⟨S3200, .f32⟩
  | 108 => ⟨S3200, .f32⟩
  | 109 => ⟨S3200, .f32⟩
  | 110 => ⟨S_, .f32⟩
  | 111 => ⟨S3200, .f32⟩
  | 112 => ⟨S3200, .f32⟩
  | 113 => ⟨S3200, .f32⟩
  | 114 => ⟨S_, .f32⟩
  | 115 => ⟨S_, .f32⟩
  | 116 => ⟨S3200, .f32⟩
  | 117 => ⟨S3200, .f32⟩
  | 118 => ⟨S3200, .f32⟩
  | 119 => ⟨S_, .f32⟩
  | 120 => ⟨S3200, .f32⟩
  | 121 => ⟨S3200, .f32⟩
  | 122 => ⟨S3200, .f32⟩
  | 123 => ⟨S_, .f32⟩
  | 124 => ⟨S3200, .f32⟩
  | 125 => ⟨S3200, .f32⟩
  | 126 => ⟨S3200, .f32⟩
  | 127 => ⟨S_, .f32⟩
  | _ => ⟨S32x2x128x128, .f32⟩

abbrev hbmTy0_4 (i : Nat) : BufTy := match i % 128 with
  | 0 => ⟨S_, .f32⟩
  | 1 => ⟨S3200, .f32⟩
  | 2 => ⟨S3200, .f32⟩
  | 3 => ⟨S3200, .f32⟩
  | 4 => ⟨S_, .f32⟩
  | 5 => ⟨S3200, .f32⟩
  | 6 => ⟨S3200, .f32⟩
  | 7 => ⟨S_, .f32⟩
  | 8 => ⟨S3200, .f32⟩
  | 9 => ⟨S3200, .f32⟩
  | 10 => ⟨S_, .f32⟩
  | 11 => ⟨S3200, .f32⟩
  | 12 => ⟨S3200, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S32x2x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x2x128x128, .f32⟩

abbrev bufTy : (tb : Table) → Fin (tcTables nBuf tb) → BufTy
  | .hbm, ⟨i, _⟩ => hbmTy i
  | _, _ => ⟨S32x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_c_2 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_c_3 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_values : Ref sig .tc := ⟨.hbm, 64, rfl⟩
abbrev main_indices : Ref sig .tc := ⟨.hbm, 65, rfl⟩
abbrev main_c : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v14 : Ref sig .tc := ⟨.hbm, 87, rfl⟩
abbrev main_c_0 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_c : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_0 : Ref sig .tc := ⟨.hbm, 102, rfl⟩
abbrev main_call3_v12 : Ref sig .tc := ⟨.hbm, 103, rfl⟩
abbrev main_call3_v13 : Ref sig .tc := ⟨.hbm, 104, rfl⟩
abbrev main_v15 : Ref sig .tc := ⟨.hbm, 105, rfl⟩
abbrev main_v16 : Ref sig .tc := ⟨.hbm, 106, rfl⟩
abbrev main_c_1 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_v5 : Ref sig .tc := ⟨.hbm, 116, rfl⟩
abbrev main_call4_v6 : Ref sig .tc := ⟨.hbm, 117, rfl⟩
abbrev main_call4_c_2 : Ref sig .tc := ⟨.hbm, 118, rfl⟩
abbrev main_call4_v7 : Ref sig .tc := ⟨.hbm, 119, rfl⟩
abbrev main_call4_v8 : Ref sig .tc := ⟨.hbm, 120, rfl⟩
abbrev main_call4_c_3 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_v17 : Ref sig .tc := ⟨.hbm, 128, rfl⟩
abbrev main_v18 : Ref sig .tc := ⟨.hbm, 129, rfl⟩
abbrev main_v19 : Ref sig .tc := ⟨.hbm, 130, rfl⟩
abbrev main_values_2 : Ref sig .tc := ⟨.hbm, 131, rfl⟩
abbrev main_indices_3 : Ref sig .tc := ⟨.hbm, 132, rfl⟩
abbrev main_v20 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_c_1 : Ref sig .tc := ⟨.hbm, 142, rfl⟩
abbrev main_call5_c_2 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_3 : Ref sig .tc := ⟨.hbm, 150, rfl⟩
abbrev main_call5_v12 : Ref sig .tc := ⟨.hbm, 151, rfl⟩
abbrev main_call5_v13 : Ref sig .tc := ⟨.hbm, 152, rfl⟩
abbrev main_call5_cst : Ref sig .tc := ⟨.hbm, 153, rfl⟩
abbrev main_call5_v14 : Ref sig .tc := ⟨.hbm, 154, rfl⟩
abbrev main_v21 : Ref sig .tc := ⟨.hbm, 155, rfl⟩
abbrev main_v22 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_cst : Ref sig .tc := ⟨.hbm, 176, rfl⟩
abbrev main_call6_v14 : Ref sig .tc := ⟨.hbm, 177, rfl⟩
abbrev main_v23 : Ref sig .tc := ⟨.hbm, 178, rfl⟩
abbrev main_v24 : Ref sig .tc := ⟨.hbm, 179, rfl⟩
abbrev main_v25 : Ref sig .tc := ⟨.hbm, 180, rfl⟩
abbrev main_v26 : Ref sig .tc := ⟨.hbm, 181, rfl⟩
abbrev main_v27 : Ref sig .tc := ⟨.hbm, 182, rfl⟩
abbrev main_cst : Ref sig .tc := ⟨.hbm, 183, rfl⟩
abbrev main_v28 : Ref sig .tc := ⟨.hbm, 184, rfl⟩
abbrev main_v29 : Ref sig .tc := ⟨.hbm, 185, rfl⟩
abbrev main_v30 : Ref sig .tc := ⟨.hbm, 186, rfl⟩
abbrev main_cst_4 : Ref sig .tc := ⟨.hbm, 187, rfl⟩
abbrev main_v31 : Ref sig .tc := ⟨.hbm, 188, rfl⟩
abbrev main_v32 : Ref sig .tc := ⟨.hbm, 189, rfl⟩
abbrev main_v33 : Ref sig .tc := ⟨.hbm, 190, rfl⟩
abbrev main_v34 : Ref sig .tc := ⟨.hbm, 191, rfl⟩
abbrev main_v35 : Ref sig .tc := ⟨.hbm, 192, rfl⟩
abbrev main_values_5 : Ref sig .tc := ⟨.hbm, 193, rfl⟩
abbrev main_indices_6 : Ref sig .tc := ⟨.hbm, 194, rfl⟩
abbrev main_c_7 : Ref sig .tc := ⟨.hbm, 195, rfl⟩
abbrev main_call7_v0 : Ref sig .tc := ⟨.hbm, 196, rfl⟩
abbrev main_call7_c : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_c_1 : Ref sig .tc := ⟨.hbm, 203, rfl⟩
abbrev main_call7_v5 : Ref sig .tc := ⟨.hbm, 204, rfl⟩
abbrev main_call7_v6 : Ref sig .tc := ⟨.hbm, 205, rfl⟩
abbrev main_call7_c_2 : Ref sig .tc := ⟨.hbm, 206, rfl⟩
abbrev main_call7_v7 : Ref sig .tc := ⟨.hbm, 207, rfl⟩
abbrev main_call7_v8 : Ref sig .tc := ⟨.hbm, 208, rfl⟩
abbrev main_call7_c_3 : Ref sig .tc := ⟨.hbm, 209, rfl⟩
abbrev main_call7_v9 : Ref sig .tc := ⟨.hbm, 210, rfl⟩
abbrev main_call7_v10 : Ref sig .tc := ⟨.hbm, 211, rfl⟩
abbrev main_call7_v11 : Ref sig .tc := ⟨.hbm, 212, rfl⟩
abbrev main_call7_v12 : Ref sig .tc := ⟨.hbm, 213, rfl⟩
abbrev main_call7_v13 : Ref sig .tc := ⟨.hbm, 214, rfl⟩
abbrev main_call7_v14 : Ref sig .tc := ⟨.hbm, 215, rfl⟩
abbrev main_v36 : Ref sig .tc := ⟨.hbm, 216, rfl⟩
abbrev main_c_8 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_v5 : Ref sig .tc := ⟨.hbm, 223, rfl⟩
abbrev main_call8_v6 : Ref sig .tc := ⟨.hbm, 224, rfl⟩
abbrev main_call8_v7 : Ref sig .tc := ⟨.hbm, 225, rfl⟩
abbrev main_call8_v8 : Ref sig .tc := ⟨.hbm, 226, rfl⟩
abbrev main_call8_c : Ref sig .tc := ⟨.hbm, 227, rfl⟩
abbrev main_call8_v9 : Ref sig .tc := ⟨.hbm, 228, rfl⟩
abbrev main_call8_v10 : Ref sig .tc := ⟨.hbm, 229, rfl⟩
abbrev main_call8_v11 : Ref sig .tc := ⟨.hbm, 230, rfl⟩
abbrev main_call8_c_0 : Ref sig .tc := ⟨.hbm, 231, rfl⟩
abbrev main_call8_v12 : Ref sig .tc := ⟨.hbm, 232, rfl⟩
abbrev main_call8_v13 : Ref sig .tc := ⟨.hbm, 233, rfl⟩
abbrev main_v37 : Ref sig .tc := ⟨.hbm, 234, rfl⟩
abbrev main_v38 : Ref sig .tc := ⟨.hbm, 235, rfl⟩
abbrev main_c_9 : Ref sig .tc := ⟨.hbm, 236, rfl⟩
abbrev main_call9_v0 : Ref sig .tc := ⟨.hbm, 237, rfl⟩
abbrev main_call9_c : Ref sig .tc := ⟨.hbm, 238, rfl⟩
abbrev main_call9_v1 : Ref sig .tc := ⟨.hbm, 239, rfl⟩
abbrev main_call9_c_0 : Ref sig .tc := ⟨.hbm, 240, rfl⟩
abbrev main_call9_v2 : Ref sig .tc := ⟨.hbm, 241, rfl⟩
abbrev main_call9_v3 : Ref sig .tc := ⟨.hbm, 242, rfl⟩
abbrev main_call9_v4 : Ref sig .tc := ⟨.hbm, 243, rfl⟩
abbrev main_call9_c_1 : Ref sig .tc := ⟨.hbm, 244, rfl⟩
abbrev main_call9_v5 : Ref sig .tc := ⟨.hbm, 245, rfl⟩
abbrev main_call9_v6 : Ref sig .tc := ⟨.hbm, 246, rfl⟩
abbrev main_call9_c_2 : Ref sig .tc := ⟨.hbm, 247, rfl⟩
abbrev main_call9_v7 : Ref sig .tc := ⟨.hbm, 248, rfl⟩
abbrev main_call9_v8 : Ref sig .tc := ⟨.hbm, 249, rfl⟩
abbrev main_call9_c_3 : Ref sig .tc := ⟨.hbm, 250, rfl⟩
abbrev main_call9_v9 : Ref sig .tc := ⟨.hbm, 251, rfl⟩
abbrev main_call9_v10 : Ref sig .tc := ⟨.hbm, 252, rfl⟩
abbrev main_call9_v11 : Ref sig .tc := ⟨.hbm, 253, rfl⟩
abbrev main_call9_v12 : Ref sig .tc := ⟨.hbm, 254, rfl⟩
abbrev main_call9_v13 : Ref sig .tc := ⟨.hbm, 255, rfl⟩
abbrev main_call9_v14 : Ref sig .tc := ⟨.hbm, 256, rfl⟩
abbrev main_v39 : Ref sig .tc := ⟨.hbm, 257, rfl⟩
abbrev main_v40 : Ref sig .tc := ⟨.hbm, 258, rfl⟩
abbrev main_v41 : Ref sig .tc := ⟨.hbm, 259, rfl⟩
abbrev main_values_10 : Ref sig .tc := ⟨.hbm, 260, rfl⟩
abbrev main_indices_11 : Ref sig .tc := ⟨.hbm, 261, rfl⟩
abbrev main_v42 : Ref sig .tc := ⟨.hbm, 262, rfl⟩
abbrev main_call10_c : Ref sig .tc := ⟨.hbm, 263, rfl⟩
abbrev main_call10_v0 : Ref sig .tc := ⟨.hbm, 264, rfl⟩
abbrev main_call10_v1 : Ref sig .tc := ⟨.hbm, 265, rfl⟩
abbrev main_call10_c_0 : Ref sig .tc := ⟨.hbm, 266, rfl⟩
abbrev main_call10_v2 : Ref sig .tc := ⟨.hbm, 267, rfl⟩
abbrev main_call10_v3 : Ref sig .tc := ⟨.hbm, 268, rfl⟩
abbrev main_call10_v4 : Ref sig .tc := ⟨.hbm, 269, rfl⟩
abbrev main_call10_v5 : Ref sig .tc := ⟨.hbm, 270, rfl⟩
abbrev main_call10_c_1 : Ref sig .tc := ⟨.hbm, 271, rfl⟩
abbrev main_call10_c_2 : Ref sig .tc := ⟨.hbm, 272, rfl⟩
abbrev main_call10_v6 : Ref sig .tc := ⟨.hbm, 273, rfl⟩
abbrev main_call10_v7 : Ref sig .tc := ⟨.hbm, 274, rfl⟩
abbrev main_call10_v8 : Ref sig .tc := ⟨.hbm, 275, rfl⟩
abbrev main_call10_v9 : Ref sig .tc := ⟨.hbm, 276, rfl⟩
abbrev main_call10_v10 : Ref sig .tc := ⟨.hbm, 277, rfl⟩
abbrev main_call10_v11 : Ref sig .tc := ⟨.hbm, 278, rfl⟩
abbrev main_call10_c_3 : Ref sig .tc := ⟨.hbm, 279, rfl⟩
abbrev main_call10_v12 : Ref sig .tc := ⟨.hbm, 280, rfl⟩
abbrev main_call10_v13 : Ref sig .tc := ⟨.hbm, 281, rfl⟩
abbrev main_call10_cst : Ref sig .tc := ⟨.hbm, 282, rfl⟩
abbrev main_call10_v14 : Ref sig .tc := ⟨.hbm, 283, rfl⟩
abbrev main_v43 : Ref sig .tc := ⟨.hbm, 284, rfl⟩
abbrev main_v44 : Ref sig .tc := ⟨.hbm, 285, rfl⟩
abbrev main_call11_c : Ref sig .tc := ⟨.hbm, 286, rfl⟩
abbrev main_call11_v0 : Ref sig .tc := ⟨.hbm, 287, rfl⟩
abbrev main_call11_v1 : Ref sig .tc := ⟨.hbm, 288, rfl⟩
abbrev main_call11_c_0 : Ref sig .tc := ⟨.hbm, 289, rfl⟩
abbrev main_call11_v2 : Ref sig .tc := ⟨.hbm, 290, rfl⟩
abbrev main_call11_v3 : Ref sig .tc := ⟨.hbm, 291, rfl⟩
abbrev main_call11_v4 : Ref sig .tc := ⟨.hbm, 292, rfl⟩
abbrev main_call11_v5 : Ref sig .tc := ⟨.hbm, 293, rfl⟩
abbrev main_call11_c_1 : Ref sig .tc := ⟨.hbm, 294, rfl⟩
abbrev main_call11_c_2 : Ref sig .tc := ⟨.hbm, 295, rfl⟩
abbrev main_call11_v6 : Ref sig .tc := ⟨.hbm, 296, rfl⟩
abbrev main_call11_v7 : Ref sig .tc := ⟨.hbm, 297, rfl⟩
abbrev main_call11_v8 : Ref sig .tc := ⟨.hbm, 298, rfl⟩
abbrev main_call11_v9 : Ref sig .tc := ⟨.hbm, 299, rfl⟩
abbrev main_call11_v10 : Ref sig .tc := ⟨.hbm, 300, rfl⟩
abbrev main_call11_v11 : Ref sig .tc := ⟨.hbm, 301, rfl⟩
abbrev main_call11_c_3 : Ref sig .tc := ⟨.hbm, 302, rfl⟩
abbrev main_call11_v12 : Ref sig .tc := ⟨.hbm, 303, rfl⟩
abbrev main_call11_v13 : Ref sig .tc := ⟨.hbm, 304, rfl⟩
abbrev main_call11_cst : Ref sig .tc := ⟨.hbm, 305, rfl⟩
abbrev main_call11_v14 : Ref sig .tc := ⟨.hbm, 306, rfl⟩
abbrev main_v45 : Ref sig .tc := ⟨.hbm, 307, rfl⟩
abbrev main_v46 : Ref sig .tc := ⟨.hbm, 308, rfl⟩
abbrev main_v47 : Ref sig .tc := ⟨.hbm, 309, rfl⟩
abbrev main_v48 : Ref sig .tc := ⟨.hbm, 310, rfl⟩
abbrev main_v49 : Ref sig .tc := ⟨.hbm, 311, rfl⟩
abbrev main_cst_12 : Ref sig .tc := ⟨.hbm, 312, rfl⟩
abbrev main_v50 : Ref sig .tc := ⟨.hbm, 313, rfl⟩
abbrev main_v51 : Ref sig .tc := ⟨.hbm, 314, rfl⟩
abbrev main_v52 : Ref sig .tc := ⟨.hbm, 315, rfl⟩
abbrev main_cst_13 : Ref sig .tc := ⟨.hbm, 316, rfl⟩
abbrev main_v53 : Ref sig .tc := ⟨.hbm, 317, rfl⟩
abbrev main_v54 : Ref sig .tc := ⟨.hbm, 318, rfl⟩
abbrev main_v55 : Ref sig .tc := ⟨.hbm, 319, rfl⟩
abbrev main_v56 : Ref sig .tc := ⟨.hbm, 320, rfl⟩
abbrev main_v57 : Ref sig .tc := ⟨.hbm, 321, rfl⟩
abbrev main_v58 : Ref sig .tc := ⟨.hbm, 322, rfl⟩
abbrev main_v59 : Ref sig .tc := ⟨.hbm, 323, rfl⟩
abbrev main_cst_14 : Ref sig .tc := ⟨.hbm, 324, rfl⟩
abbrev main_cst_15 : Ref sig .tc := ⟨.hbm, 325, rfl⟩
abbrev main_call12_v0 : Ref sig .tc := ⟨.hbm, 326, rfl⟩
abbrev main_call12_v1 : Ref sig .tc := ⟨.hbm, 327, rfl⟩
abbrev main_call12_v2 : Ref sig .tc := ⟨.hbm, 328, rfl⟩
abbrev main_call12_v3 : Ref sig .tc := ⟨.hbm, 329, rfl⟩
abbrev main_call12_v4 : Ref sig .tc := ⟨.hbm, 330, rfl⟩
abbrev main_v60 : Ref sig .tc := ⟨.hbm, 331, rfl⟩
abbrev main_v61 : Ref sig .tc := ⟨.hbm, 332, rfl⟩
abbrev main_v62 : Ref sig .tc := ⟨.hbm, 333, rfl⟩
abbrev main_cst_16 : Ref sig .tc := ⟨.hbm, 334, rfl⟩
abbrev main_v63 : Ref sig .tc := ⟨.hbm, 335, rfl⟩
abbrev main_v64 : Ref sig .tc := ⟨.hbm, 336, rfl⟩
abbrev main_v65 : Ref sig .tc := ⟨.hbm, 337, rfl⟩
abbrev main_v66 : Ref sig .tc := ⟨.hbm, 338, rfl⟩
abbrev main_v67 : Ref sig .tc := ⟨.hbm, 339, rfl⟩
abbrev main_v68 : Ref sig .tc := ⟨.hbm, 340, rfl⟩
abbrev main_v69 : Ref sig .tc := ⟨.hbm, 341, rfl⟩
abbrev main_v70 : Ref sig .tc := ⟨.hbm, 342, rfl⟩
abbrev main_v71 : Ref sig .tc := ⟨.hbm, 343, rfl⟩
abbrev main_v72 : Ref sig .tc := ⟨.hbm, 344, rfl⟩
abbrev main_v73 : Ref sig .tc := ⟨.hbm, 345, rfl⟩
abbrev main_v74 : Ref sig .tc := ⟨.hbm, 346, rfl⟩
abbrev main_v75 : Ref sig .tc := ⟨.hbm, 347, rfl⟩
abbrev main_v76 : Ref sig .tc := ⟨.hbm, 348, rfl⟩
abbrev main_c_17 : Ref sig .tc := ⟨.hbm, 349, rfl⟩
abbrev main_v77 : Ref sig .tc := ⟨.hbm, 350, rfl⟩
abbrev main_v78 : Ref sig .tc := ⟨.hbm, 351, rfl⟩
abbrev main_v79 : Ref sig .tc := ⟨.hbm, 352, rfl⟩
abbrev main_v80 : Ref sig .tc := ⟨.hbm, 353, rfl⟩
abbrev main_v81 : Ref sig .tc := ⟨.hbm, 354, rfl⟩
abbrev main_v82 : Ref sig .tc := ⟨.hbm, 355, rfl⟩
abbrev main_v83 : Ref sig .tc := ⟨.hbm, 356, rfl⟩
abbrev main_v84 : Ref sig .tc := ⟨.hbm, 357, rfl⟩
abbrev main_cst_18 : Ref sig .tc := ⟨.hbm, 358, rfl⟩
abbrev main_v85 : Ref sig .tc := ⟨.hbm, 359, rfl⟩
abbrev main_v86 : Ref sig .tc := ⟨.hbm, 360, rfl⟩
abbrev main_v87 : Ref sig .tc := ⟨.hbm, 361, rfl⟩
abbrev main_v88 : Ref sig .tc := ⟨.hbm, 362, rfl⟩
abbrev main_v89 : Ref sig .tc := ⟨.hbm, 363, rfl⟩
abbrev main_cst_19 : Ref sig .tc := ⟨.hbm, 364, rfl⟩
abbrev main_cst_20 : Ref sig .tc := ⟨.hbm, 365, rfl⟩
abbrev main_call13_v0 : Ref sig .tc := ⟨.hbm, 366, rfl⟩
abbrev main_call13_v1 : Ref sig .tc := ⟨.hbm, 367, rfl⟩
abbrev main_call13_v2 : Ref sig .tc := ⟨.hbm, 368, rfl⟩
abbrev main_call13_v3 : Ref sig .tc := ⟨.hbm, 369, rfl⟩
abbrev main_call13_v4 : Ref sig .tc := ⟨.hbm, 370, rfl⟩
abbrev main_v90 : Ref sig .tc := ⟨.hbm, 371, rfl⟩
abbrev main_v91 : Ref sig .tc := ⟨.hbm, 372, rfl⟩
abbrev main_v92 : Ref sig .tc := ⟨.hbm, 373, rfl⟩
abbrev main_cst_21 : Ref sig .tc := ⟨.hbm, 374, rfl⟩
abbrev main_v93 : Ref sig .tc := ⟨.hbm, 375, rfl⟩
abbrev main_v94 : Ref sig .tc := ⟨.hbm, 376, rfl⟩
abbrev main_v95 : Ref sig .tc := ⟨.hbm, 377, rfl⟩
abbrev main_v96 : Ref sig .tc := ⟨.hbm, 378, rfl⟩
abbrev main_v97 : Ref sig .tc := ⟨.hbm, 379, rfl⟩
abbrev main_v98 : Ref sig .tc := ⟨.hbm, 380, rfl⟩
abbrev main_v99 : Ref sig .tc := ⟨.hbm, 381, rfl⟩
abbrev main_v100 : Ref sig .tc := ⟨.hbm, 382, rfl⟩
abbrev main_v101 : Ref sig .tc := ⟨.hbm, 383, rfl⟩
abbrev main_v102 : Ref sig .tc := ⟨.hbm, 384, rfl⟩
abbrev main_v103 : Ref sig .tc := ⟨.hbm, 385, rfl⟩
abbrev main_v104 : Ref sig .tc := ⟨.hbm, 386, rfl⟩
abbrev main_v105 : Ref sig .tc := ⟨.hbm, 387, rfl⟩
abbrev main_v106 : Ref sig .tc := ⟨.hbm, 388, rfl⟩
abbrev main_c_22 : Ref sig .tc := ⟨.hbm, 389, rfl⟩
abbrev main_v107 : Ref sig .tc := ⟨.hbm, 390, rfl⟩
abbrev main_v108 : Ref sig .tc := ⟨.hbm, 391, rfl⟩
abbrev main_v109 : Ref sig .tc := ⟨.hbm, 392, rfl⟩
abbrev main_v110 : Ref sig .tc := ⟨.hbm, 393, rfl⟩
abbrev main_v111 : Ref sig .tc := ⟨.hbm, 394, rfl⟩
abbrev main_v112 : Ref sig .tc := ⟨.hbm, 395, rfl⟩
abbrev main_v113 : Ref sig .tc := ⟨.hbm, 396, rfl⟩
abbrev main_v114 : Ref sig .tc := ⟨.hbm, 397, rfl⟩
abbrev main_cst_23 : Ref sig .tc := ⟨.hbm, 398, rfl⟩
abbrev main_v115 : Ref sig .tc := ⟨.hbm, 399, rfl⟩
abbrev main_v116 : Ref sig .tc := ⟨.hbm, 400, rfl⟩
abbrev main_v117 : Ref sig .tc := ⟨.hbm, 401, rfl⟩
abbrev main_v118 : Ref sig .tc := ⟨.hbm, 402, rfl⟩
abbrev main_cst_24 : Ref sig .tc := ⟨.hbm, 403, rfl⟩
abbrev main_v119 : Ref sig .tc := ⟨.hbm, 404, rfl⟩
abbrev main_v120 : Ref sig .tc := ⟨.hbm, 405, rfl⟩
abbrev main_v121 : Ref sig .tc := ⟨.hbm, 406, rfl⟩
abbrev main_v122 : Ref sig .tc := ⟨.hbm, 407, rfl⟩
abbrev main_v123 : Ref sig .tc := ⟨.hbm, 408, rfl⟩
abbrev main_v124 : Ref sig .tc := ⟨.hbm, 409, rfl⟩
abbrev main_v125 : Ref sig .tc := ⟨.hbm, 410, rfl⟩
abbrev main_v126 : Ref sig .tc := ⟨.hbm, 411, rfl⟩
abbrev main_v127 : Ref sig .tc := ⟨.hbm, 412, rfl⟩
abbrev main_call14_v0 : Ref sig .tc := ⟨.hbm, 413, rfl⟩
abbrev main_call14_v1 : Ref sig .tc := ⟨.hbm, 414, rfl⟩
abbrev main_call14_c : Ref sig .tc := ⟨.hbm, 415, rfl⟩
abbrev main_call14_v2 : Ref sig .tc := ⟨.hbm, 416, rfl⟩
abbrev main_call14_v3 : Ref sig .tc := ⟨.hbm, 417, rfl⟩
abbrev main_call14_c_0 : Ref sig .tc := ⟨.hbm, 418, rfl⟩
abbrev main_call14_v4 : Ref sig .tc := ⟨.hbm, 419, rfl⟩
abbrev main_call14_v5 : Ref sig .tc := ⟨.hbm, 420, rfl⟩
abbrev main_call14_v6 : Ref sig .tc := ⟨.hbm, 421, rfl⟩
abbrev main_call14_c_1 : Ref sig .tc := ⟨.hbm, 422, rfl⟩
abbrev main_call14_v7 : Ref sig .tc := ⟨.hbm, 423, rfl⟩
abbrev main_call14_v8 : Ref sig .tc := ⟨.hbm, 424, rfl⟩
abbrev main_call14_c_2 : Ref sig .tc := ⟨.hbm, 425, rfl⟩
abbrev main_call14_v9 : Ref sig .tc := ⟨.hbm, 426, rfl⟩
abbrev main_call14_v10 : Ref sig .tc := ⟨.hbm, 427, rfl⟩
abbrev main_call14_v11 : Ref sig .tc := ⟨.hbm, 428, rfl⟩
abbrev main_call14_v12 : Ref sig .tc := ⟨.hbm, 429, rfl⟩
abbrev main_call14_v13 : Ref sig .tc := ⟨.hbm, 430, rfl⟩
abbrev main_call14_v14 : Ref sig .tc := ⟨.hbm, 431, rfl⟩
abbrev main_v128 : Ref sig .tc := ⟨.hbm, 432, rfl⟩
abbrev main_call15_v0 : Ref sig .tc := ⟨.hbm, 433, rfl⟩
abbrev main_call15_v1 : Ref sig .tc := ⟨.hbm, 434, rfl⟩
abbrev main_call15_c : Ref sig .tc := ⟨.hbm, 435, rfl⟩
abbrev main_call15_v2 : Ref sig .tc := ⟨.hbm, 436, rfl⟩
abbrev main_call15_v3 : Ref sig .tc := ⟨.hbm, 437, rfl⟩
abbrev main_call15_c_0 : Ref sig .tc := ⟨.hbm, 438, rfl⟩
abbrev main_call15_v4 : Ref sig .tc := ⟨.hbm, 439, rfl⟩
abbrev main_call15_v5 : Ref sig .tc := ⟨.hbm, 440, rfl⟩
abbrev main_call15_v6 : Ref sig .tc := ⟨.hbm, 441, rfl⟩
abbrev main_call15_c_1 : Ref sig .tc := ⟨.hbm, 442, rfl⟩
abbrev main_call15_v7 : Ref sig .tc := ⟨.hbm, 443, rfl⟩
abbrev main_call15_v8 : Ref sig .tc := ⟨.hbm, 444, rfl⟩
abbrev main_call15_c_2 : Ref sig .tc := ⟨.hbm, 445, rfl⟩
abbrev main_call15_v9 : Ref sig .tc := ⟨.hbm, 446, rfl⟩
abbrev main_call15_v10 : Ref sig .tc := ⟨.hbm, 447, rfl⟩
abbrev main_call15_v11 : Ref sig .tc := ⟨.hbm, 448, rfl⟩
abbrev main_call15_v12 : Ref sig .tc := ⟨.hbm, 449, rfl⟩
abbrev main_call15_v13 : Ref sig .tc := ⟨.hbm, 450, rfl⟩
abbrev main_call15_v14 : Ref sig .tc := ⟨.hbm, 451, rfl⟩
abbrev main_v129 : Ref sig .tc := ⟨.hbm, 452, rfl⟩
abbrev main_v130 : Ref sig .tc := ⟨.hbm, 453, rfl⟩
abbrev main_cst_25 : Ref sig .tc := ⟨.hbm, 454, rfl⟩
abbrev main_v131 : Ref sig .tc := ⟨.hbm, 455, rfl⟩
abbrev main_v132 : Ref sig .tc := ⟨.hbm, 456, rfl⟩
abbrev main_cst_26 : Ref sig .tc := ⟨.hbm, 457, rfl⟩
abbrev main_v133 : Ref sig .tc := ⟨.hbm, 458, rfl⟩
abbrev main_v134 : Ref sig .tc := ⟨.hbm, 459, rfl⟩
abbrev main_v135 : Ref sig .tc := ⟨.hbm, 460, rfl⟩
abbrev main_call16_v0 : Ref sig .tc := ⟨.hbm, 461, rfl⟩
abbrev main_call16_v1 : Ref sig .tc := ⟨.hbm, 462, rfl⟩
abbrev main_call16_c : Ref sig .tc := ⟨.hbm, 463, rfl⟩
abbrev main_call16_v2 : Ref sig .tc := ⟨.hbm, 464, rfl⟩
abbrev main_call16_v3 : Ref sig .tc := ⟨.hbm, 465, rfl⟩
abbrev main_call16_c_0 : Ref sig .tc := ⟨.hbm, 466, rfl⟩
abbrev main_call16_v4 : Ref sig .tc := ⟨.hbm, 467, rfl⟩
abbrev main_call16_v5 : Ref sig .tc := ⟨.hbm, 468, rfl⟩
abbrev main_call16_v6 : Ref sig .tc := ⟨.hbm, 469, rfl⟩
abbrev main_call16_c_1 : Ref sig .tc := ⟨.hbm, 470, rfl⟩
abbrev main_call16_v7 : Ref sig .tc := ⟨.hbm, 471, rfl⟩
abbrev main_call16_v8 : Ref sig .tc := ⟨.hbm, 472, rfl⟩
abbrev main_call16_c_2 : Ref sig .tc := ⟨.hbm, 473, rfl⟩
abbrev main_call16_v9 : Ref sig .tc := ⟨.hbm, 474, rfl⟩
abbrev main_call16_v10 : Ref sig .tc := ⟨.hbm, 475, rfl⟩
abbrev main_call16_v11 : Ref sig .tc := ⟨.hbm, 476, rfl⟩
abbrev main_call16_v12 : Ref sig .tc := ⟨.hbm, 477, rfl⟩
abbrev main_call16_v13 : Ref sig .tc := ⟨.hbm, 478, rfl⟩
abbrev main_call16_v14 : Ref sig .tc := ⟨.hbm, 479, rfl⟩
abbrev main_v136 : Ref sig .tc := ⟨.hbm, 480, rfl⟩
abbrev main_cst_27 : Ref sig .tc := ⟨.hbm, 481, rfl⟩
abbrev main_v137 : Ref sig .tc := ⟨.hbm, 482, rfl⟩
abbrev main_v138 : Ref sig .tc := ⟨.hbm, 483, rfl⟩
abbrev main_v139 : Ref sig .tc := ⟨.hbm, 484, rfl⟩
abbrev main_v140 : Ref sig .tc := ⟨.hbm, 485, rfl⟩
abbrev main_v141 : Ref sig .tc := ⟨.hbm, 486, rfl⟩
abbrev main_v142 : Ref sig .tc := ⟨.hbm, 487, rfl⟩
abbrev main_v143 : Ref sig .tc := ⟨.hbm, 488, rfl⟩
abbrev main_v144 : Ref sig .tc := ⟨.hbm, 489, rfl⟩
abbrev main_v145 : Ref sig .tc := ⟨.hbm, 490, rfl⟩
abbrev main_v146 : Ref sig .tc := ⟨.hbm, 491, rfl⟩
abbrev main_v147 : Ref sig .tc := ⟨.hbm, 492, rfl⟩
abbrev main_v148 : Ref sig .tc := ⟨.hbm, 493, rfl⟩
abbrev main_cst_28 : Ref sig .tc := ⟨.hbm, 494, rfl⟩
abbrev main_v149 : Ref sig .tc := ⟨.hbm, 495, rfl⟩
abbrev main_v150 : Ref sig .tc := ⟨.hbm, 496, rfl⟩
abbrev main_v151 : Ref sig .tc := ⟨.hbm, 497, rfl⟩
abbrev main_cst_29 : Ref sig .tc := ⟨.hbm, 498, rfl⟩
abbrev main_call17_v0 : Ref sig .tc := ⟨.hbm, 499, rfl⟩
abbrev main_call17_v1 : Ref sig .tc := ⟨.hbm, 500, rfl⟩
abbrev main_v152 : Ref sig .tc := ⟨.hbm, 501, rfl⟩
abbrev main_v153 : Ref sig .tc := ⟨.hbm, 502, rfl⟩
abbrev main_cst_30 : Ref sig .tc := ⟨.hbm, 503, rfl⟩
abbrev main_v154 : Ref sig .tc := ⟨.hbm, 504, rfl⟩
abbrev main_v155 : Ref sig .tc := ⟨.hbm, 505, rfl⟩
abbrev main_v156 : Ref sig .tc := ⟨.hbm, 506, rfl⟩
abbrev main_cst_31 : Ref sig .tc := ⟨.hbm, 507, rfl⟩
abbrev main_v157 : Ref sig .tc := ⟨.hbm, 508, rfl⟩
abbrev main_v158 : Ref sig .tc := ⟨.hbm, 509, rfl⟩
abbrev main_v159 : Ref sig .tc := ⟨.hbm, 510, rfl⟩
abbrev main_cst_32 : Ref sig .tc := ⟨.hbm, 511, rfl⟩
abbrev main_call18_v0 : Ref sig .tc := ⟨.hbm, 512, rfl⟩
abbrev main_call18_v1 : Ref sig .tc := ⟨.hbm, 513, rfl⟩
abbrev main_v160 : Ref sig .tc := ⟨.hbm, 514, rfl⟩
abbrev main_v161 : Ref sig .tc := ⟨.hbm, 515, rfl⟩
abbrev main_cst_33 : Ref sig .tc := ⟨.hbm, 516, rfl⟩
abbrev main_v162 : Ref sig .tc := ⟨.hbm, 517, rfl⟩
abbrev main_v163 : Ref sig .tc := ⟨.hbm, 518, rfl⟩
abbrev main_cst_34 : Ref sig .tc := ⟨.hbm, 519, rfl⟩
abbrev main_v164 : Ref sig .tc := ⟨.hbm, 520, rfl⟩
abbrev main_v165 : Ref sig .tc := ⟨.hbm, 521, rfl⟩
abbrev main_cst_35 : Ref sig .tc := ⟨.hbm, 522, rfl⟩
abbrev main_v166 : Ref sig .tc := ⟨.hbm, 523, rfl⟩
abbrev main_v167 : Ref sig .tc := ⟨.hbm, 524, rfl⟩
abbrev main_cst_36 : Ref sig .tc := ⟨.hbm, 525, rfl⟩
abbrev main_v168 : Ref sig .tc := ⟨.hbm, 526, rfl⟩
abbrev main_cst_37 : Ref sig .tc := ⟨.hbm, 527, rfl⟩
abbrev main_v169 : Ref sig .tc := ⟨.hbm, 528, rfl⟩
abbrev main_cst_38 : Ref sig .tc := ⟨.hbm, 529, rfl⟩
abbrev main_v170 : Ref sig .tc := ⟨.hbm, 530, rfl⟩
abbrev main_v171 : Ref sig .tc := ⟨.hbm, 531, rfl⟩

abbrev nD : Nat := 1
abbrev τ : Topo := Topo.v7x

variable {F : FTy → Type} [FloatOps F]
-- ==== Proof.BodyKI.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the extraction loop carries: the two score maps and the four rows of coordinates found so far. -/
abbrev St (F : FTy → Type) [FloatOps F] : Type :=
  FVec F S128x128 .f32 × FVec F S128x128 .f32 × FVec F S1x128 .f32 × FVec F S1x128 .f32 × FVec F S1x128 .f32 × FVec F S1x128 .f32

/-- The lane numbers of one row. -/
def lanes : IVec S1x128 32 := iota .tc S1x128 32 [1] iota_S1x128_d1_w32

/-- One trip of the extraction loop as a function: the largest score of each map is struck out and its row and column
    are written into lane `k` of the coordinate rows. -/
def trip (k : Fin k0_t1_loop.trips) (s : St F) : St F :=
  (k0_pay5 k0_pay24 s.1, k0_pay12 k0_pay24 s.2.1,
    k0_pay8 lanes s.2.2.1 (Scf.iv 0#32 1#32 k) (k0_pay6 k0_pay24 s.1),
    k0_pay9 lanes s.2.2.2.1 (Scf.iv 0#32 1#32 k) (k0_pay4 k0_pay24 s.1)
      (Scalar.select (Scalar.cmpi .eq 128#32 0#32) 1#32 128#32),
    k0_pay16 lanes s.2.2.2.2.1 (Scf.iv 0#32 1#32 k) (k0_pay11 k0_pay24 s.2.1) 128#32 (k0_pay13 k0_pay24 s.2.1)
      (k0_pay14 k0_pay24 s.2.1),
    k0_pay26 s.2.2.2.2.2 (k0_pay15 lanes (Scf.iv 0#32 1#32 k)) (Scalar.ofBits .f32 0x00000000#32)
      (k0_pay17 (k0_pay11 k0_pay24 s.2.1)))

/-- The loop's region issues nothing: it returns the trip's function. -/
theorem body_eq (i : grid0.Coords) (arg1 : Memref sig .tc .vmem S1x2x128x128 .f32) (harg1 : arg1.IsWhole) (arg2 : Memref sig .tc .vmem S1x1x128x128 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x128x16 .f32) (harg5 : arg5.IsWhole) (arg6 : Memref sig .tc .vmem S1x128 .f32) (harg6 : arg6.IsWhole)
    (k : Fin k0_t1_loop.trips) (s : St F) :
    k0_t1_body i arg1 harg1 arg2 harg2 arg3 harg3 arg4 harg4 arg5 harg5 arg6 harg6 lanes k s = .ret (trip k s) := by
  obtain ⟨a, b, c, d, e, f⟩ := s
  rfl

/-- What the loop leaves, from the two maps it is given. -/
def cols (v6 v8 : Vec F S1x1x128x128 .f32) : St F :=
  Scf.fold trip (k0_pay21 v6, k0_pay22 v8, k0_pay25 (F := F), k0_pay25 (F := F), k0_pay25 (F := F), k0_pay25 (F := F))

/-- The column of the 128 box losses. -/
def lossCol (v0 v2 v4 v6 v8 : Vec F S1x1x128x128 .f32) (v10 : Vec F S1x128x16 .f32) : FVec F S128x1 .f32 :=
  let v1 := k0_pay18 v0
  let v3 := k0_pay19 v2
  let v5 := k0_pay20 v4
  let v11 := k0_pay23 v10
  let c := cols v6 v8
  let v27 := k0_pay27 c.2.2.1 c.2.2.2.1 c.2.2.2.2.1 c.2.2.2.2.2
  let v28 := k0_pay28 c.2.2.1 c.2.2.2.1 c.2.2.2.2.1 c.2.2.2.2.2
  k0_pay56 (k0_pay43 (k0_pay35 v11 v28) (k0_pay36 v11 v27) (k0_pay40 v11 v27) (k0_pay41 v11 v27))
    (k0_pay46 (k0_pay39 v1 v3 v5 v11)) (k0_pay47 (k0_pay39 v1 v3 v5 v11)) (k0_pay48 (k0_pay30 v11) (k0_pay31 v11))
    (k0_pay49 (k0_pay30 v11) (k0_pay31 v11)) (k0_pay50 (k0_pay37 v1 v3 v5 v11)) (k0_pay51 (k0_pay38 v1 v3 v5 v11))
    (k0_pay52 (k0_pay42 v11)) (k0_pay53 (k0_pay29 v11) (k0_pay31 v11) (Scalar.ofBits .f32 0x40000000#32))
    (k0_pay54 (k0_pay37 v1 v3 v5 v11)) (k0_pay55 (k0_pay38 v1 v3 v5 v11))

/-- What a grid point leaves in the output row, over what the row held. -/
def stepVal (v0 v2 v4 v6 v8 : Vec F S1x1x128x128 .f32) (v10 : Vec F S1x128x16 .f32) (prev : Vec F S1x128 .f32) :
    Vec F S1x128 .f32 :=
  k0_pay2 lanes (k0_pay31 (k0_pay23 v10)) (lossCol v0 v2 v4 v6 v8 v10) (Scalar.ofBits .f32 0x3F800000#32) prev

/-- The body with the loop replaced by its value: six loads, the zeroing at the first point, the accumulation. -/
def bodyProg (i : grid0.Coords) (arg1 : Memref sig .tc .vmem S1x2x128x128 .f32) (harg1 : arg1.IsWhole) (arg2 : Memref sig .tc .vmem S1x1x128x128 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x128x16 .f32) (harg5 : arg5.IsWhole) (arg6 : Memref sig .tc .vmem S1x128 .f32) (harg6 : arg6.IsWhole) :
    Prog (TpuEff nD τ sig (Elt F) Λ₀ .tc) PUnit := do
  let v0 : Vec F S1x1x128x128 .f32 ← Prog.lift (.load arg1 (Rect.unit (s := S1x2x128x128) ![0, 0, 0, 0] S1x1x128x128.size inb_S1x2x128x128_S1x1x128x128_0_0_0_0).toLoadRect (View.loadsAt_vmem h_S1x1x128x128))
  let v2 : Vec F S1x1x128x128 .f32 ← Prog.lift (.load arg1 (Rect.unit (s := S1x2x128x128) ![0, 1, 0, 0] S1x1x128x128.size inb_S1x2x128x128_S1x1x128x128_0_1_0_0).toLoadRect (View.loadsAt_vmem h_S1x1x128x128))
  let v4 : Vec F S1x1x128x128 .f32 ← Prog.lift (.load arg2 (Rect.unit (s := S1x1x128x128) ![0, 0, 0, 0] S1x1x128x128.size inb_S1x1x128x128_S1x1x128x128_0_0_0_0).toLoadRect (View.loadsAt_vmem h_S1x1x128x128))
  let v6 : Vec F S1x1x128x128 .f32 ← Prog.lift (.load arg3 (Rect.unit (s := S1x1x128x128) ![0, 0, 0, 0] S1x1x128x128.size inb_S1x1x128x128_S1x1x128x128_0_0_0_0).toLoadRect (View.loadsAt_vmem h_S1x1x128x128))
  let v8 : Vec F S1x1x128x128 .f32 ← Prog.lift (.load arg4 (Rect.unit (s := S1x1x128x128) ![0, 0, 0, 0] S1x1x128x128.size inb_S1x1x128x128_S1x1x128x128_0_0_0_0).toLoadRect (View.loadsAt_vmem h_S1x1x128x128))
  let v10 : Vec F S1x128x16 .f32 ← Prog.lift (.load arg5 (Rect.unit (s := S1x128x16) ![0, 0, 0] S1x128x16.size inb_S1x128x16_S1x128x16_0_0_0).toLoadRect (View.loadsAt_vmem h_S1x128x16))
  if k0_h1 : Scalar.cmpi .ne (Scalar.extui (Scalar.cmpi .eq (BitVec.ofNat 32 (i 0).val) 0#32)) 0#32 = 1#1 then do
    let v212 : Vec F S1x128 .f32 ← Prog.lift (.load arg6 (Rect.unit (s := S1x128) ![0, 0] S1x128.size inb_S1x128_S1x128_0_0).toLoadRect (View.loadsAt_vmem h_S1x128))
    Prog.lift (.store arg6 (Rect.unit (s := S1x128) ![0, 0] S1x128.size inb_S1x128_S1x128_0_0) (k0_pay1 (F := F)) Finset.univ (View.stores_vmem_bits_univ h_S1x128 rfl) (.inl rfl))
    pure ⟨⟩
  else do
    pure ⟨⟩
  let v196 : Vec F S1x128 .f32 ← Prog.lift (.load arg6 (Rect.unit (s := S1x128) ![0, 0] S1x128.size inb_S1x128_S1x128_0_0).toLoadRect (View.loadsAt_vmem h_S1x128))
  let v210 : Vec F S1x128 .f32 ← Prog.lift (.load arg6 (Rect.unit (s := S1x128) ![0, 0] S1x128.size inb_S1x128_S1x128_0_0).toLoadRect (View.loadsAt_vmem h_S1x128))
  Prog.lift (.store arg6 (Rect.unit (s := S1x128) ![0, 0] S1x128.size inb_S1x128_S1x128_0_0) (stepVal v0 v2 v4 v6 v8 v10 v196) Finset.univ (View.stores_vmem_bits_univ h_S1x128 rfl) (.inl rfl))
  pure ⟨⟩

/-- The printed body is `bodyProg`: the loop, issuing nothing, is the return of its value. -/
theorem kernel_eq (i : grid0.Coords) (arg1 : Memref sig .tc .vmem S1x2x128x128 .f32) (harg1 : arg1.IsWhole) (arg2 : Memref sig .tc .vmem S1x1x128x128 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x128x16 .f32) (harg5 : arg5.IsWhole) (arg6 : Memref sig .tc .vmem S1x128 .f32) (harg6 : arg6.IsWhole) :
    cc0__gwd_kernel (F := F) i arg1 harg1 arg2 harg2 arg3 harg3 arg4 harg4 arg5 harg5 arg6 harg6
      = bodyProg i arg1 harg1 arg2 harg2 arg3 harg3 arg4 harg4 arg5 harg5 arg6 harg6 := by
  rw [cc0__gwd_kernel_eq_skeleton]
  unfold cc0__gwd_kernel_skel bodyProg
  rw [k0_part4_eq_skeleton]
  unfold k0_part4_skel
  refine congrArg (Prog.op _) (funext fun v0 => ?_)
  refine congrArg (Prog.op _) (funext fun v2 => ?_)
  refine congrArg (Prog.op _) (funext fun v4 => ?_)
  refine congrArg (Prog.op _) (funext fun v6 => ?_)
  refine congrArg (Prog.op _) (funext fun v8 => ?_)
  refine congrArg (Prog.op _) (funext fun v10 => ?_)
  have hl := Scf.for_pure k0_t1_loop.lb k0_t1_loop.ub k0_t1_loop.st k0_t1_ok
    (k0_pay21 v6, k0_pay22 v8, k0_pay25 (F := F), k0_pay25 (F := F), k0_pay25 (F := F), k0_pay25 (F := F)) _ trip
    (body_eq i arg1 harg1 arg2 harg2 arg3 harg3 arg4 harg4 arg5 harg5 arg6 harg6)
  unfold lanes at hl
  dsimp only [Scf.Loop.for, k0_t1_loop] at hl ⊢
  rw [hl]
  rfl

end Cert.Proof.KI

end
-- ==== Proof.RunKI.lean ====
module

public import proofs.«01_k».proof.Proof.BodyKI
public import Idealize.ShloMosaic.Lib.Pipeline.FrameBody
public import Idealize.ShloMosaic.Lib.Pipeline.FrameSuffix
public import Idealize.ShloMosaic.Lib.Ring
public import Idealize.ShloMosaic.Lib.WordCmp
public import Idealize.ShloMosaic.Lib.Claim
public import Idealize.ShloMosaic.Lib.ValueIdx
public import Idealize.ShloMosaic.Lib.VecWindow
public import Idealize.ShloMosaic.Lib.WholeRead
public import Idealize.ShloMosaic.Lib.Exec
public import Idealize.ShloMosaic.Lib.Tactic
public import Idealize.ShloMosaic.Lib.Pipeline.Kit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if`: the point is the first. -/
abbrev cond0 (i : grid0.Coords) : Prop := (Scalar.cmpi .ne (Scalar.extui (Scalar.cmpi .eq (BitVec.ofNat 32 (i 0).val) 0#32)) 0#32) = 1#1

/-- What a grid point leaves in the output row, from the contents of the input blocks and what the row held. -/
def outVal (x0 : Vec F S1x2x128x128 .f32) (x1 : Vec F S1x1x128x128 .f32) (x2 : Vec F S1x1x128x128 .f32) (x3 : Vec F S1x1x128x128 .f32) (x4 : Vec F S1x128x16 .f32) (prev : Vec F S1x128 .f32) : Vec F S1x128 .f32 :=
  stepVal (fun j => x0 (ValueIdx.ix4 0 0 (j 2) (j 3))) (fun j => x0 (ValueIdx.ix4 0 1 (j 2) (j 3))) x1 x2 x3 x4 prev

/-- A load of the first channel of the two-channel block reads that channel. -/
theorem ld_ch0 (arg1 : Memref sig .tc .vmem S1x2x128x128 .f32) (harg1 : arg1.IsWhole) (x0 : Vec F S1x2x128x128 .f32) :
    View.readAt (Elt F) arg1.view (Rect.unit (s := S1x2x128x128) ![0, 0, 0, 0] S1x1x128x128.size inb_S1x2x128x128_S1x1x128x128_0_0_0_0).toLoadRect (harg1.unread x0)
      = fun j : S1x1x128x128.Idx => x0 (ValueIdx.ix4 0 0 (j 2) (j 3)) := by
  funext j
  refine (harg1.readAt_unread x0 _ j).trans (congrArg x0 (funext fun a => ?_))
  have h0 : (j 0).val < 1 := (j 0).isLt
  have h1 : (j 1).val < 1 := (j 1).isLt
  apply Fin.ext
  match a with
  | ⟨0, _⟩ => show 0 + 1 * (j 0).val = 0; omega
  | ⟨1, _⟩ => show 0 + 1 * (j 1).val = 0; omega
  | ⟨2, _⟩ => show 0 + 1 * (j 2).val = (j 2).val; omega
  | ⟨3, _⟩ => show 0 + 1 * (j 3).val = (j 3).val; omega

/-- A load of the second channel of the two-channel block reads that channel. -/
theorem ld_ch1 (arg1 : Memref sig .tc .vmem S1x2x128x128 .f32) (harg1 : arg1.IsWhole) (x0 : Vec F S1x2x128x128 .f32) :
    View.readAt (Elt F) arg1.view (Rect.unit (s := S1x2x128x128) ![0, 1, 0, 0] S1x1x128x128.size inb_S1x2x128x128_S1x1x128x128_0_1_0_0).toLoadRect (harg1.unread x0)
      = fun j : S1x1x128x128.Idx => x0 (ValueIdx.ix4 0 1 (j 2) (j 3)) := by
  funext j
  refine (harg1.readAt_unread x0 _ j).trans (congrArg x0 (funext fun a => ?_))
  have h0 : (j 0).val < 1 := (j 0).isLt
  have h1 : (j 1).val < 1 := (j 1).isLt
  apply Fin.ext
  match a with
  | ⟨0, _⟩ => show 0 + 1 * (j 0).val = 0; omega
  | ⟨1, _⟩ => show 1 + 1 * (j 1).val = 1; omega
  | ⟨2, _⟩ => show 0 + 1 * (j 2).val = (j 2).val; omega
  | ⟨3, _⟩ => show 0 + 1 * (j 3).val = (j 3).val; omega

/-- The body at the first grid point: the output row is the point's contribution over zeros. -/
theorem run_first (c : Dev nD) (i : grid0.Coords) (arg1 : Memref sig .tc .vmem S1x2x128x128 .f32) (harg1 : arg1.IsWhole) (arg2 : Memref sig .tc .vmem S1x1x128x128 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x128x16 .f32) (harg5 : arg5.IsWhole) (arg6 : Memref sig .tc .vmem S1x128 .f32) (harg6 : arg6.IsWhole) (hc0 : cond0 i)
    (x0 : Vec F S1x2x128x128 .f32) (x1 : Vec F S1x1x128x128 .f32) (x2 : Vec F S1x1x128x128 .f32) (x3 : Vec F S1x1x128x128 .f32) (x4 : Vec F S1x128x16 .f32) (xo5 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outVal x0 x1 x2 x3 x4 (k0_pay1 (F := F)))) -∗ K ⟨⟩))
          ⊢ wp frame (wpE (defs₀ (F := F)) Variants.none c none) E (cc0__gwd_kernel i arg1 harg1 arg2 harg2 arg3 harg3 arg4 harg4 arg5 harg5 arg6 harg6) K := by
  rw [kernel_eq]; unfold bodyProg
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  have e2 := View.readAt_full arg2.view (harg2.unread x1) (Val := Elt F) inb_S1x1x128x128_S1x1x128x128_0_0_0_0
  have e3 := View.readAt_full arg3.view (harg3.unread x2) (Val := Elt F) inb_S1x1x128x128_S1x1x128x128_0_0_0_0
  have e4 := View.readAt_full arg4.view (harg4.unread x3) (Val := Elt F) inb_S1x1x128x128_S1x1x128x128_0_0_0_0
  have e5 := View.readAt_full arg5.view (harg5.unread x4) (Val := Elt F) inb_S1x128x16_S1x128x16_0_0_0
  rw [hf1] at e2; rw [hf2] at e3; rw [hf3] at e4; rw [hf4] at e5
  refine (View.read_writes_full (s := S1x128) arg6.view _ inb_S1x128_S1x128_0_0 _ _).trans ?_
  rw [ld_ch0, ld_ch1, e2, e3, e4, e5]
  refine congrArg (stepVal _ _ _ _ _ _) ?_
  exact View.readCov_full arg6.view (Val := Elt F) inb_S1x128_S1x128_0_0 inb_S1x128_S1x128_0_0 _ _

/-- The body at a later grid point: the output row is the point's contribution over what the row held. -/
theorem run_later (c : Dev nD) (i : grid0.Coords) (arg1 : Memref sig .tc .vmem S1x2x128x128 .f32) (harg1 : arg1.IsWhole) (arg2 : Memref sig .tc .vmem S1x1x128x128 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x128x16 .f32) (harg5 : arg5.IsWhole) (arg6 : Memref sig .tc .vmem S1x128 .f32) (harg6 : arg6.IsWhole) (hc0 : ¬cond0 i)
    (x0 : Vec F S1x2x128x128 .f32) (x1 : Vec F S1x1x128x128 .f32) (x2 : Vec F S1x1x128x128 .f32) (x3 : Vec F S1x1x128x128 .f32) (x4 : Vec F S1x128x16 .f32) (xo5 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outVal x0 x1 x2 x3 x4 xo5)) -∗ K ⟨⟩))
          ⊢ wp frame (wpE (defs₀ (F := F)) Variants.none c none) E (cc0__gwd_kernel i arg1 harg1 arg2 harg2 arg3 harg3 arg4 harg4 arg5 harg5 arg6 harg6) K := by
  rw [kernel_eq]; unfold bodyProg
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  have e2 := View.readAt_full arg2.view (harg2.unread x1) (Val := Elt F) inb_S1x1x128x128_S1x1x128x128_0_0_0_0
  have e3 := View.readAt_full arg3.view (harg3.unread x2) (Val := Elt F) inb_S1x1x128x128_S1x1x128x128_0_0_0_0
  have e4 := View.readAt_full arg4.view (harg4.unread x3) (Val := Elt F) inb_S1x1x128x128_S1x1x128x128_0_0_0_0
  have e5 := View.readAt_full arg5.view (harg5.unread x4) (Val := Elt F) inb_S1x128x16_S1x128x16_0_0_0
  rw [hf1] at e2; rw [hf2] at e3; rw [hf3] at e4; rw [hf4] at e5
  refine (View.read_writes_full (s := S1x128) arg6.view _ inb_S1x128_S1x128_0_0 _ _).trans ?_
  rw [ld_ch0, ld_ch1, e2, e3, e4, e5]
  refine congrArg (stepVal _ _ _ _ _ _) ?_
  exact (View.readAt_full arg6.view (harg6.unread xo5) (Val := Elt F) inb_S1x128_S1x128_0_0).trans hf5

end Cert.Proof.KI

end
-- ==== Proof.FrameKI.lean ====
module

public import proofs.«01_k».proof.Proof.RunKI
public import Idealize.ShloMosaic.Lib.Pipeline.FrameBody
public import Idealize.ShloMosaic.Lib.Pipeline.FrameSuffix
public import Idealize.ShloMosaic.Lib.Ring
public import Idealize.ShloMosaic.Lib.WordCmp
public import Idealize.ShloMosaic.Lib.Claim
public import Idealize.ShloMosaic.Lib.ValueIdx
public import Idealize.ShloMosaic.Lib.VecWindow
public import Idealize.ShloMosaic.Lib.WholeRead
public import Idealize.ShloMosaic.Lib.Exec
public import Idealize.ShloMosaic.Lib.Tactic
public import Idealize.ShloMosaic.Lib.Pipeline.Kit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-point condition holds exactly at point 0. -/
theorem hcond (t : Fin cfg0.N) : cond0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0, e0]
    word_cmp
   : ∀ t : Fin grid0.N, cond0 (grid0.coords t) ↔ t.val % 32 = 0) t

/-- Window 0's staging memref at point `t`. -/
abbrev ms0 (t : Fin cfg0.N) : Memref sig .tc .vmem S1x2x128x128 .f32 := win0_0.stage (cfg0.slots t 0)
/-- Window 1's staging memref at point `t`. -/
abbrev ms1 (t : Fin cfg0.N) : Memref sig .tc .vmem S1x1x128x128 .f32 := win0_1.stage (cfg0.slots t 1)
/-- Window 2's staging memref at point `t`. -/
abbrev ms2 (t : Fin cfg0.N) : Memref sig .tc .vmem S1x1x128x128 .f32 := win0_2.stage (cfg0.slots t 2)
/-- Window 3's staging memref at point `t`. -/
abbrev ms3 (t : Fin cfg0.N) : Memref sig .tc .vmem S1x1x128x128 .f32 := win0_3.stage (cfg0.slots t 3)
/-- Window 4's staging memref at point `t`. -/
abbrev ms4 (t : Fin cfg0.N) : Memref sig .tc .vmem S1x128x16 .f32 := win0_4.stage (cfg0.slots t 4)
/-- Window 5's staging memref at point `t`. -/
abbrev ms5 (t : Fin cfg0.N) : Memref sig .tc .vmem S1x128 .f32 := win0_5.stage (cfg0.slots t 5)

/-- What the output row holds after the body at point `n`: the contribution of each point so far, summed in order over zeros. -/
def accum (c : Dev nD) : (n : ℕ) → n < cfg0.N → Vec F S1x128 .f32
  | 0, hn => outVal (iblk m c 0 ⟨0, hn⟩) (iblk m c 1 ⟨0, hn⟩) (iblk m c 2 ⟨0, hn⟩) (iblk m c 3 ⟨0, hn⟩) (iblk m c 4 ⟨0, hn⟩) (k0_pay1 (F := F))
  | n + 1, hn => outVal (iblk m c 0 ⟨n + 1, hn⟩) (iblk m c 1 ⟨n + 1, hn⟩) (iblk m c 2 ⟨n + 1, hn⟩) (iblk m c 3 ⟨n + 1, hn⟩) (iblk m c 4 ⟨n + 1, hn⟩) (accum c n (Nat.lt_of_succ_lt hn))

/-- At the first point the row is the point's contribution over zeros. -/
theorem accum_first (c : Dev nD) (t : Fin cfg0.N) (h0 : t.val % 32 = 0) :
    accum m c t.val t.isLt = outVal (iblk m c 0 t) (iblk m c 1 t) (iblk m c 2 t) (iblk m c 3 t) (iblk m c 4 t) (k0_pay1 (F := F)) := by
  obtain ⟨n, hn⟩ := t
  have hN : n < 32 := lt_of_lt_of_eq hn (show cfg0.N = 32 from N_0)
  cases n with
  | zero => rfl
  | succ n => exact absurd h0 (by dsimp only; omega)

/-- At a later point the row is the point's contribution over what the point before left. -/
theorem accum_later (c : Dev nD) (t : Fin cfg0.N) (h0 : ¬t.val % 32 = 0) :
    accum m c t.val t.isLt = outVal (iblk m c 0 t) (iblk m c 1 t) (iblk m c 2 t) (iblk m c 3 t) (iblk m c 4 t) (accum m c (t.val - 1) (Nat.lt_of_le_of_lt (Nat.sub_le _ _) t.isLt)) := by
  obtain ⟨n, hn⟩ := t
  cases n with
  | zero => exact absurd (Nat.zero_mod _) h0
  | succ n => rfl

/-- The pipeline's proof data: inputs stay at their blocks, the output row follows `accum`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accum m c t.val t.isLt
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = accum m c t.val t.isLt := by dsimp only [dats]

/-- Input window 0 holds its block at every point. -/
theorem before0 (c : Dev nD) (t : Fin cfg0.N) (d) : (dats m 0 c).before 0 t d = iblk m c 0 t :=
  before0_0_of m (dats m 0 c) (A_eq m c 0) (after0 m c) t d
/-- Input window 1 holds its block at every point. -/
theorem before1 (c : Dev nD) (t : Fin cfg0.N) (d) : (dats m 0 c).before 1 t d = iblk m c 1 t :=
  before0_1_of m (dats m 0 c) (A_eq m c 1) (after1 m c) t d
/-- Input window 2 holds its block at every point. -/
theorem before2 (c : Dev nD) (t : Fin cfg0.N) (d) : (dats m 0 c).before 2 t d = iblk m c 2 t :=
  before0_2_of m (dats m 0 c) (A_eq m c 2) (after2 m c) t d
/-- Input window 3 holds its block at every point. -/
theorem before3 (c : Dev nD) (t : Fin cfg0.N) (d) : (dats m 0 c).before 3 t d = iblk m c 3 t :=
  before0_3_of m (dats m 0 c) (A_eq m c 3) (after3 m c) t d
/-- Input window 4 holds its block at every point. -/
theorem before4 (c : Dev nD) (t : Fin cfg0.N) (d) : (dats m 0 c).before 4 t d = iblk m c 4 t :=
  before0_4_of m (dats m 0 c) (A_eq m c 4) (after4 m c) t d
/-- At a later point the output row still holds what the point before left. -/
theorem before5 (c : Dev nD) (t : Fin cfg0.N) (h0 : ¬t.val % 32 = 0) (d) :
    (dats m 0 c).before 5 t d = accum m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body's triple at every point: the first-point run or the later-point run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 32 = 0
  · rw [accum_first m c t h0]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((hcond t).mpr h0) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accum_later m c t h0]
    simp only [before5 m c t h0]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((hcond t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body at that point's memrefs. -/
theorem body_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The launch: every execution ends with the arrays at what the proof data says, the host tail's buffers at what the tail computes, and all counters at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch, without the counters. -/
theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The argument arrays end as they began and all counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
     )
      ∧ r.2.sem = fun _ => 0) :=
  θ_run_and (frame_of m ρ (dats m) (A_eq m) (run_post m ρ)) ((θ_run defs _ _).mono (fun _ h => h.2) (run_quiet m ρ))

end Cert.Proof.KI

end
-- ==== Proof.Rank.lean ====
module

public import Idealize.ShloMosaic.Lib.SortFacts
public import Mathlib.Order.Fin.Basic
public import Mathlib.Data.EReal.Basic

@[expose] public section

/-! # The order in which a descending sort lists the positions of a family

The reference takes the largest hundred scores by a sort; the kernel strikes them out one at a time. Both follow the
order stated here: larger score first, and of two equal scores the one at the smaller position. -/

namespace Cert.Proof

open Idealize.ShloMosaic

variable {n : ℕ} {α : Type} [LinearOrder α]

/-- Position `a` is listed before position `b`: its score is larger, or equal and its position smaller. -/
def Before (f : Fin n → α) (a b : Fin n) : Prop := f b < f a ∨ (f a = f b ∧ a < b)

/-- The position a stable descending sort puts at place `k`. -/
def rank (f : Fin n → α) (k : Fin n) : Fin n := sortedFrom (fun a b => decide (f b < f a)) k

/-- The order is transitive. -/
theorem Before.trans {f : Fin n → α} {a b c : Fin n} (h : Before f a b) (h' : Before f b c) : Before f a c := by
  rcases h with h | ⟨h, l⟩ <;> rcases h' with h' | ⟨h', l'⟩
  · exact .inl (h'.trans h)
  · exact .inl (h' ▸ h)
  · exact .inl (h ▸ h')
  · exact .inr ⟨h.trans h', l.trans l'⟩

/-- Inserting a position smaller than all those of a listed list keeps it listed. -/
theorem pairwise_insert_before (f : Fin n → α) (a : Fin n) (l : List (Fin n)) (hl : l.Pairwise (Before f))
    (ha : ∀ b ∈ l, a < b) : (insertBefore (fun a b => decide (f b < f a)) a l).Pairwise (Before f) := by
  induction l with
  | nil => exact List.pairwise_singleton _ _
  | cons b l ih =>
    have hb := List.pairwise_cons.1 hl
    unfold insertBefore
    split
    · next h =>
      rw [decide_eq_true_eq] at h
      refine List.pairwise_cons.2 ⟨fun c hc => ?_, ih hb.2 fun c hc => ha c (List.mem_cons_of_mem _ hc)⟩
      rcases List.mem_cons.1 ((perm_insertBefore _ a l).mem_iff.1 hc) with rfl | hc
      · exact .inl h
      · exact hb.1 c hc
    · next h =>
      rw [decide_eq_true_eq, not_lt] at h
      have hab : Before f a b := (lt_or_eq_of_le h).elim .inl fun e => .inr ⟨e.symm, ha b List.mem_cons_self⟩
      refine List.pairwise_cons.2 ⟨fun c hc => ?_, hl⟩
      rcases List.mem_cons.1 hc with rfl | hc
      · exact hab
      · exact hab.trans (hb.1 c hc)

/-- Sorting an increasing list of positions lists it. -/
theorem pairwise_sort_before (f : Fin n → α) (l : List (Fin n)) (hl : l.Pairwise (· < ·)) :
    (stableSort (fun a b => decide (f b < f a)) l).Pairwise (Before f) := by
  induction l with
  | nil => exact List.Pairwise.nil
  | cons a l ih =>
    have h := List.pairwise_cons.1 hl
    exact pairwise_insert_before f a _ (ih h.2) fun b hb => h.1 b ((perm_stableSort _ l).mem_iff.1 hb)

/-- The listing is in order. -/
theorem rank_before (f : Fin n → α) {i j : Fin n} (h : i < j) : Before f (rank f i) (rank f j) := by
  have hp : (sortPositions n (fun a b => decide (f b < f a))).Pairwise (Before f) :=
    pairwise_sort_before f _ (List.pairwise_lt_finRange n)
  exact (List.pairwise_iff_get.1 hp) _ _ h

/-- Every place has a rank. -/
theorem rank_surjective (f : Fin n → α) : Function.Surjective (rank f) := sortedFrom_surjective _

/-- Different ranks are different places. -/
theorem rank_injective (f : Fin n → α) : Function.Injective (rank f) := sortedFrom_injective _

/-- A family already in descending order is listed as it stands. -/
theorem rank_of_antitone (f : Fin n → α) (h : Antitone f) (k : Fin n) : rank f k = k := by
  have hm : StrictMono (rank f) := fun i j hij => by
    rcases rank_before f hij with hlt | ⟨_, hlt⟩
    · by_contra hge
      exact absurd (h (not_lt.1 hge)) (not_le.2 hlt)
    · exact hlt
  have he : rank f = id := (StrictMono.range_inj hm strictMono_id).1
    (by rw [(rank_surjective f).range_eq, Set.range_id])
  exact congrFun he k

/-- The scores are in descending order along the listing. -/
theorem rank_antitone (f : Fin n → α) : Antitone fun k => f (rank f k) := fun i j hij => by
  rcases lt_or_eq_of_le hij with hlt | rfl
  · rcases rank_before f hlt with h | ⟨h, _⟩
    · exact h.le
    · exact h.ge
  · exact le_rfl

/-! ## Striking out -/

/-- The family with the first `r` listed positions overwritten by `z`. -/
noncomputable def struck (f : Fin n → α) (z : α) (r : ℕ) (p : Fin n) : α :=
  open Classical in if ∃ j : Fin n, j.val < r ∧ rank f j = p then z else f p

/-- Before the first pick nothing is struck. -/
theorem struck_zero (f : Fin n → α) (z : α) : struck f z 0 = f := by
  funext p
  unfold struck
  rw [if_neg]
  rintro ⟨j, hj, _⟩
  exact absurd hj (Nat.not_lt_zero _)

/-- The next place in order is not yet struck. -/
theorem struck_self (f : Fin n → α) (z : α) (r : Fin n) : struck f z r.val (rank f r) = f (rank f r) := by
  unfold struck
  rw [if_neg]
  rintro ⟨j, hj, e⟩
  rw [rank_injective f e] at hj
  exact absurd hj (lt_irrefl _)

/-- With every score above the overwriting value, the next listed position holds the largest score left. -/
theorem struck_le (f : Fin n → α) (z : α) (hz : ∀ p, z < f p) (r p : Fin n) :
    struck f z r.val p ≤ struck f z r.val (rank f r) := by
  rw [struck_self]
  obtain ⟨j, rfl⟩ := rank_surjective f p
  unfold struck
  split
  · exact (hz _).le
  · next h =>
    have hj : r ≤ j := not_lt.1 fun hlt => h ⟨j, hlt, rfl⟩
    exact rank_antitone f hj

/-- Of the positions that hold the largest score left, the next listed one is the first. -/
theorem rank_le_of_struck_eq (f : Fin n → α) (z : α) (hz : ∀ p, z < f p) (r p : Fin n)
    (he : struck f z r.val p = struck f z r.val (rank f r)) : rank f r ≤ p := by
  rw [struck_self] at he
  obtain ⟨j, rfl⟩ := rank_surjective f p
  unfold struck at he
  split at he
  · exact absurd he (hz _).ne
  · next h =>
    have hj : r ≤ j := not_lt.1 fun hlt => h ⟨j, hlt, rfl⟩
    rcases lt_or_eq_of_le hj with hlt | rfl
    · rcases rank_before f hlt with hb | ⟨_, hb⟩
      · exact absurd he hb.ne
      · exact hb.le
    · exact le_rfl

/-- Striking out the next listed position is one step of the strike. -/
theorem struck_succ (f : Fin n → α) (z : α) (r p : Fin n) :
    struck f z (r.val + 1) p = if p = rank f r then z else struck f z r.val p := by
  unfold struck
  by_cases hp : p = rank f r
  · rw [if_pos hp, if_pos ⟨r, Nat.lt_succ_self _, hp.symm⟩]
  · rw [if_neg hp]
    refine if_congr ⟨?_, ?_⟩ rfl rfl
    · rintro ⟨j, hj, e⟩
      rcases Nat.lt_succ_iff_lt_or_eq.1 hj with h | h
      · exact ⟨j, h, e⟩
      · exact absurd (by rw [← e, Fin.ext h]) hp
    · rintro ⟨j, hj, e⟩
      exact ⟨j, hj.trans (Nat.lt_succ_self _), e⟩

end Cert.Proof

end
-- ==== Proof.Pick.lean ====
module

public import proofs.«01_k».proof.Proof.BodyKI
public import proofs.«01_k».proof.Proof.Rank
public import Idealize.ShloMosaic.PureOps.Ideal.Laws
public import Idealize.ShloMosaic.Lib.ValueIdx
public import Idealize.ShloMosaic.Lib.Pipeline.Value
public import Idealize.ShloMosaic.Lib.Routing.Words
public import Idealize.ShloMosaic.Lib.SortNet.Extract

@[expose] public section

set_option maxRecDepth 65536

noncomputable section

/-! # One trip of the extraction loop

The trip names the first position that holds the largest score, strikes it out and writes its row and column. -/

namespace Cert.Proof.KI

open Cert.KernelIdeal Cert.KernelIdeal.Gen
open Idealize.ShloMosaic Idealize.ShloMosaic.ValueIdx

/-- The number of a place of the map, row by row. -/
def flat (j : S128x128.Idx) : ℕ := (j 0).val * 128 + (j 1).val

/-- A flat position is on the map. -/
theorem flat_lt (j : S128x128.Idx) : flat j < 16384 := by
  have h0 := (j 0).isLt; have h1 := (j 1).isLt
  change (j 0).val < 128 at h0; change (j 1).val < 128 at h1
  unfold flat; omega

/-- A flat position determines the cell. -/
theorem flat_injective {i j : S128x128.Idx} (h : flat i = flat j) : i = j := by
  have h0 := (i 1).isLt; have h1 := (j 1).isLt
  change (i 1).val < 128 at h0; change (j 1).val < 128 at h1
  unfold flat at h
  exact Shape.idx_ext₂ (by omega) (by omega)

/-- The place with a number. -/
def place (p : Fin 16384) : S128x128.Idx := ix2 ⟨p.val / 128, by omega⟩ ⟨p.val % 128, by omega⟩

/-- The cell of a flat position has that position. -/
theorem flat_place (p : Fin 16384) : flat (place p) = p.val := by
  show p.val / 128 * 128 + p.val % 128 = p.val
  omega

/-- The map of numbers holds each place's number. -/
theorem pay24_apply (j : S128x128.Idx) : k0_pay24 j = BitVec.ofNat 32 (flat j) := by
  unfold k0_pay24
  show IntOp.addi (IntOp.muli (BitVec.ofNat 32 (0 * 128 + (j 0).val)) 128#32) (BitVec.ofNat 32 (0 * 128 + (j 1).val)) = _
  unfold IntOp.addi IntOp.muli flat
  rw [show (128#32 : BitVec 32) = BitVec.ofNat 32 128 from rfl, ← BitVec.ofNat_mul, ← BitVec.ofNat_add]
  congr 1; omega

/-- A small natural read back from a signed word. -/
theorem toInt_ofNat_small {p : ℕ} (h : p < 2 ^ 31) : (BitVec.ofNat 32 p).toInt = (p : ℤ) := by
  rw [BitVec.toInt_eq_toNat_cond, BitVec.toNat_ofNat]; omega

/-- Every reduction to one element folds over all elements. -/
theorem filter_drop_univ {s t : Shape} {axes : List (Fin s.rank)} (h : s.Reduces axes t) (ht : ∀ b, t.size b = 1)
    (j : t.Idx) : (Finset.univ.filter fun i => h.drop i = j) = Finset.univ :=
  Finset.filter_true_of_mem fun i _ => funext fun b => Fin.ext (by
    have := (h.drop i b).isLt; have := (j b).isLt; have := ht b; omega)

/-- The bits of minus infinity. -/
theorem ofBits_neg_inf : Ideal.ofBits .f32 0xFF800000#32 = ⊥ := by
  simp [Ideal.ofBits, Ideal.ieee]

/-- The fold of the larger score over all places is the score no other exceeds. -/
theorem fold_max_eq (g : S128x128.Idx → EReal) (p : S128x128.Idx) (hp : ∀ j, g j ≤ g p) {t : Shape}
    (h : S128x128.ShapeCasts t) :
    (Finset.univ : Finset t.Idx).fold max (Ideal.ofBits .f32 0xFF800000#32) (shapeCast t g h) = g p := by
  apply le_antisymm
  · rw [Finset.fold_max_le]
    exact ⟨ofBits_neg_inf ▸ bot_le, fun x _ => hp _⟩
  · rw [Finset.le_fold_max]
    refine .inr ⟨(Shape.reshapeEquiv h).symm p, Finset.mem_univ _, ?_⟩
    unfold shapeCast
    rw [Equiv.apply_symm_apply]

/-- The fold of the smaller word over all places is the word no other is below. -/
theorem fold_minsi_eq (g : S128x128.Idx → BitVec 32) (p : S128x128.Idx) (hp : ∀ j, (g p).toInt ≤ (g j).toInt)
    (h0 : (g p).toInt ≤ (2147483647#32 : BitVec 32).toInt) {t : Shape} (h : S128x128.ShapeCasts t) :
    (Finset.univ : Finset t.Idx).fold IntOp.minsi 2147483647#32 (shapeCast t g h) = g p := by
  apply BitVec.eq_of_toInt_eq
  apply le_antisymm
  · have := (Finset.fold_op_rel_iff_or (op := IntOp.minsi (w := 32)) (r := fun x y => y.toInt ≤ x.toInt)
      (s := (Finset.univ : Finset t.Idx)) (b := 2147483647#32) (f := shapeCast t g h) (by
        intro x y z; show (IntOp.minsi y z).toInt ≤ x.toInt ↔ _; rw [SortNet.toInt_minsi, min_le_iff]) (c := g p)).2
      (.inr ⟨(Shape.reshapeEquiv h).symm p, Finset.mem_univ _, by
        unfold shapeCast
        rw [Equiv.apply_symm_apply]⟩)
    exact this
  · have := (Finset.fold_op_rel_iff_and (op := IntOp.minsi (w := 32)) (r := fun x y => x.toInt ≤ y.toInt)
      (s := (Finset.univ : Finset t.Idx)) (b := 2147483647#32) (f := shapeCast t g h) (by
        intro x y z; show x.toInt ≤ (IntOp.minsi y z).toInt ↔ _; rw [SortNet.toInt_minsi, le_min_iff]) (c := g p)).2
      ⟨h0, fun x _ => hp _⟩
    exact this

/-- The shape has one entry along each axis. -/
theorem size_S1 : ∀ b, S1.size b = 1 := by decide

/-- The reduction of the map by the larger score. -/
theorem reduce_max_eq (g : FVec Ideal S128x128 .f32) (p : S128x128.Idx) (hp : ∀ j, g j ≤ g p) :
    multiReduction (F := Ideal) .maximumf [1, 2] S1 (shapeCast S1x128x128 g shapeCasts_S128x128_S1x128x128)
      0xFF800000#32 reduces_S1x128x128_S1 (.inl rfl) rfl = fun _ => g p := by
  funext i
  refine (multiReduction_maximumf_eq_fold _ _ reduces_S1x128x128_S1 (.inl rfl) rfl i).trans ?_
  rw [filter_drop_univ _ size_S1]
  exact fold_max_eq g p hp _

/-- The reduction of a map of words by the smaller one. -/
theorem reduce_min_eq (g : IVec S128x128 32) (p : S128x128.Idx) (hp : ∀ j, (g p).toInt ≤ (g j).toInt)
    (h0 : (g p).toInt ≤ (2147483647#32 : BitVec 32).toInt) :
    multiReductionI .minsi [1, 2] S1 (shapeCast S1x128x128 g shapeCasts_S128x128_S1x128x128)
      2147483647#32 reduces_S1x128x128_S1 rfl = fun _ => g p := by
  funext i
  refine (multiReductionI_eq_fold _ _ _ reduces_S1x128x128_S1 rfl i).trans ?_
  rw [filter_drop_univ _ size_S1]
  exact fold_minsi_eq g p hp h0 _

section
variable (g : FVec Ideal S128x128 .f32) (p : S128x128.Idx) (hp : ∀ j, g j ≤ g p)
include hp

/-- The marked map: the place's number where the score is the largest, a number past all places elsewhere. -/
theorem pay3_apply (j : S128x128.Idx) :
    k0_pay3 k0_pay24 g j = if g j = g p then BitVec.ofNat 32 (flat j) else 99999#32 := by
  unfold k0_pay3
  dsimp only
  rw [reduce_max_eq g p hp]
  show Scalar.select (Ideal.cmp .oeq (g j) (g p)) (k0_pay24 j) 99999#32 = _
  rw [pay24_apply]
  unfold Scalar.select Ideal.cmp
  by_cases h : g j = g p <;> simp [h]

variable (hm : ∀ j, g j = g p → flat p ≤ flat j)
include hm

/-- The position found. -/
theorem pay4_eq : k0_pay4 k0_pay24 g = fun _ => BitVec.ofNat 32 (flat p) := by
  have hflat := flat_lt p
  have h99 : (99999#32 : BitVec 32).toInt = 99999 := by decide
  have hmax : (2147483647#32 : BitVec 32).toInt = 2147483647 := by decide
  have hpp : k0_pay3 k0_pay24 g p = BitVec.ofNat 32 (flat p) := by rw [pay3_apply g p hp, if_pos rfl]
  have hpi : (k0_pay3 k0_pay24 g p).toInt = (flat p : ℤ) := by rw [hpp, toInt_ofNat_small (by omega)]
  have hr := reduce_min_eq (k0_pay3 k0_pay24 g) p (fun j => by
    rw [hpi, pay3_apply g p hp]
    have hj := flat_lt j
    split
    · next h => rw [toInt_ofNat_small (by omega)]; have := hm j h; omega
    · rw [h99]; omega) (by rw [hpi, hmax]; omega)
  unfold k0_pay4
  dsimp only
  rw [hr, hpp]
  rfl

/-- The map with the found place struck out. -/
theorem pay5_apply (j : S128x128.Idx) :
    k0_pay5 k0_pay24 g j = if j = p then Ideal.ofBits .f32 0xBF800000#32 else g j := by
  unfold k0_pay5
  rw [pay4_eq g p hp hm]
  show Scalar.select (IntOp.cmpi .eq (k0_pay3 k0_pay24 g j) (BitVec.ofNat 32 (flat p))) (Ideal.ofBits .f32 0xBF800000#32) (g j) = _
  rw [pay3_apply g p hp]
  have hflat := flat_lt p
  have hj := flat_lt j
  have key : ((if g j = g p then BitVec.ofNat 32 (flat j) else 99999#32) = BitVec.ofNat 32 (flat p)) ↔ j = p := by
    constructor
    · intro h
      split at h
      · have := congrArg BitVec.toNat h
        rw [BitVec.toNat_ofNat, BitVec.toNat_ofNat] at this
        exact flat_injective (by omega)
      · have := congrArg BitVec.toNat h
        rw [BitVec.toNat_ofNat, BitVec.toNat_ofNat] at this
        omega
    · rintro rfl; rw [if_pos rfl]
  unfold Scalar.select IntOp.cmpi
  by_cases h : j = p
  · rw [if_pos h]; simp only [key.2 h]; simp
  · rw [if_neg h]
    have hk := fun e => h (key.1 e)
    simp only [beq_eq_false_iff_ne.2 hk]
    rfl

end

/-! ## Row and column of the position found -/

/-- The row written: the position's number over the width. -/
theorem row_word {p : ℕ} (h : p < 16384) :
    Scalar.select (IntOp.andi (IntOp.cmpi .ne (IntOp.subi ((IntOp.cmpi .sgt (BitVec.ofNat 32 p) 0#32).setWidth 32)
        ((IntOp.cmpi .slt (BitVec.ofNat 32 p) 0#32).setWidth 32)) 1#32)
      (IntOp.cmpi .ne (IntOp.remsi .vector (BitVec.ofNat 32 p) 128#32) 0#32))
      (IntOp.subi (IntOp.divsi .vector (BitVec.ofNat 32 p) 128#32) 1#32) (IntOp.divsi .vector (BitVec.ofNat 32 p) 128#32)
      = BitVec.ofNat 32 (p / 128) := by
  rw [show (128#32 : BitVec 32) = BitVec.ofNat 32 128 from rfl,
    Routing.remsi_word _ (by omega) (by omega) (by omega), Routing.divsi_word _ (by omega) (by omega) (by omega)]
  have hsl : IntOp.cmpi .slt (BitVec.ofNat 32 p) 0#32 = 0#1 := by
    unfold IntOp.cmpi
    simp only [BitVec.slt, toInt_ofNat_small (show p < 2 ^ 31 by omega)]
    rw [show (0#32 : BitVec 32).toInt = 0 from rfl]
    rw [decide_eq_false (by omega)]; rfl
  by_cases h0 : p = 0
  · subst h0; decide
  · have hsg : IntOp.cmpi .sgt (BitVec.ofNat 32 p) 0#32 = 1#1 := by
      unfold IntOp.cmpi
      simp only [BitVec.slt, toInt_ofNat_small (show p < 2 ^ 31 by omega)]
      rw [show (0#32 : BitVec 32).toInt = 0 from rfl]
      rw [decide_eq_true (by omega)]; rfl
    rw [hsl, hsg]
    have : IntOp.cmpi .ne (IntOp.subi ((1#1 : BitVec 1).setWidth 32) ((0#1 : BitVec 1).setWidth 32)) 1#32 = 0#1 := by decide
    rw [this]
    unfold IntOp.andi
    rw [BitVec.zero_and]
    rfl

/-- The column written: the remainder of the position's number by the width. -/
theorem col_word {p : ℕ} (h : p < 16384) :
    Scalar.select (IntOp.andi (IntOp.xori (IntOp.cmpi .slt (IntOp.remsi .vector (BitVec.ofNat 32 p) 128#32) 0#32) 0#1)
      (IntOp.cmpi .ne (IntOp.remsi .vector (BitVec.ofNat 32 p) 128#32) 0#32))
      (IntOp.addi (IntOp.remsi .vector (BitVec.ofNat 32 p) 128#32) 128#32) (IntOp.remsi .vector (BitVec.ofNat 32 p) 128#32)
      = BitVec.ofNat 32 (p % 128) := by
  rw [show (128#32 : BitVec 32) = BitVec.ofNat 32 128 from rfl,
    Routing.remsi_word _ (by omega) (by omega) (by omega)]
  have hsl : IntOp.cmpi .slt (BitVec.ofNat 32 (p % 128)) 0#32 = 0#1 := by
    unfold IntOp.cmpi
    simp only [BitVec.slt, toInt_ofNat_small (show p % 128 < 2 ^ 31 by omega)]
    rw [show (0#32 : BitVec 32).toInt = 0 from rfl]
    rw [decide_eq_false (by omega)]; rfl
  rw [hsl]
  have : IntOp.xori (0#1 : BitVec 1) 0#1 = 0#1 := by decide
  rw [this]
  unfold IntOp.andi
  rw [BitVec.zero_and]
  rfl

end Cert.Proof.KI

end
-- ==== Proof.Extract.lean ====
module

public import proofs.«01_k».proof.Proof.Pick

@[expose] public section

set_option maxRecDepth 65536

noncomputable section

/-! # What the extraction loop leaves

After the hundred trips, lane `k` of the coordinate rows holds the row and the column of the `k`-th position of the
descending listing of the map. -/

namespace Cert.Proof

/-- The position listed at place `k`, as a number (zero past the end). -/
def nth (f : Fin 16384 → EReal) (k : ℕ) : ℕ := if h : k < 16384 then (rank f ⟨k, h⟩).val else 0

/-- The place of the `k`-th largest value is on the map. -/
theorem nth_lt (f : Fin 16384 → EReal) (k : ℕ) : nth f k < 16384 := by
  unfold nth; split
  · exact (rank f _).isLt
  · omega

/-- A property kept by every step of a fold over `n` steps holds at the end. -/
theorem fold_keeps {σ : Type} {n : ℕ} (g : Fin n → σ → σ) (P : ℕ → σ → Prop) (init : σ) (h0 : P 0 init)
    (hs : ∀ (k : Fin n) (s : σ), P k.val s → P (k.val + 1) (g k s)) :
    P n ((List.finRange n).foldl (fun acc k => g k acc) init) := by
  induction n generalizing P init with
  | zero => exact h0
  | succ n ih =>
    rw [List.finRange_succ, List.foldl_cons, List.foldl_map]
    exact ih (fun k s => g k.succ s) (fun k s => P (k + 1) s) (g 0 init) (hs 0 init h0)
      fun k s h => hs k.succ s h

end Cert.Proof

namespace Cert.Proof.KI

open Cert.KernelIdeal Cert.KernelIdeal.Gen
open Idealize.ShloMosaic Idealize.ShloMosaic.ValueIdx

/-- The scores of a map by number. -/
def score (x : S1x1x128x128.Idx → EReal) (p : Fin 16384) : EReal :=
  x (ix4 0 0 ⟨p.val / 128, by omega⟩ ⟨p.val % 128, by omega⟩)

/-- The value a struck-out place holds. -/
abbrev negOne : EReal := Ideal.ofBits .f32 0xBF800000#32

/-- A row of lanes that holds `val k` at each lane `k` below `n` and zero past it. -/
def filled (n : ℕ) (val : ℕ → ℕ) : FVec Ideal S1x128 .f32 := fun i => if (i 1).val < n then (((val (i 1).val : ℕ) : ℝ) : EReal) else 0

/-- A map after `n` trips. -/
def mapAfter (f : Fin 16384 → EReal) (n : ℕ) : FVec Ideal S128x128 .f32 := fun j => struck f negOne n ⟨flat j, flat_lt j⟩

/-- A map as the loop receives it has nothing struck out. -/
theorem mapAfter_zero (x : S1x1x128x128.Idx → EReal) (h : S1x1x128x128.ShapeCasts S128x128) :
    shapeCast S128x128 x h = mapAfter (score x) 0 := by
  funext j
  unfold mapAfter
  rw [struck_zero]
  have h1 := (j 1).isLt
  change (j 1).val < 128 at h1
  refine shapeCast_apply x h j _ ?_
  rw [Shape.rowMajor_val_four, Shape.rowMajor_val_two]
  show ((0 * 1 + 0) * 128 + flat j / 128) * 128 + flat j % 128 = (j 0).val * 128 + (j 1).val
  unfold flat; omega

section
variable (f : Fin 16384 → EReal) (hf : ∀ p, negOne < f p) (n : ℕ) (hn : n < 16384)
include hf hn

/-- After `n` picks the next place in order holds the largest value left. -/
theorem mapAfter_le (j : S128x128.Idx) : mapAfter f n j ≤ mapAfter f n (place (rank f ⟨n, hn⟩)) := by
  unfold mapAfter
  have h := struck_le f negOne hf ⟨n, hn⟩ ⟨flat j, flat_lt j⟩
  have e : (⟨flat (place (rank f ⟨n, hn⟩)), flat_lt _⟩ : Fin 16384) = rank f ⟨n, hn⟩ := Fin.ext (flat_place _)
  rw [e]; exact h

/-- Among the places holding the largest value left, the next in order comes first. -/
theorem mapAfter_first (j : S128x128.Idx) (he : mapAfter f n j = mapAfter f n (place (rank f ⟨n, hn⟩))) :
    flat (place (rank f ⟨n, hn⟩)) ≤ flat j := by
  unfold mapAfter at he
  have e : (⟨flat (place (rank f ⟨n, hn⟩)), flat_lt _⟩ : Fin 16384) = rank f ⟨n, hn⟩ := Fin.ext (flat_place _)
  rw [e] at he
  rw [flat_place]
  exact rank_le_of_struck_eq f negOne hf ⟨n, hn⟩ ⟨flat j, flat_lt j⟩ he

/-- The position a trip finds is the next listed one. -/
theorem pay4_mapAfter : k0_pay4 k0_pay24 (mapAfter f n) = fun _ => BitVec.ofNat 32 (nth f n) := by
  rw [pay4_eq _ _ (mapAfter_le f hf n hn) (mapAfter_first f hf n hn), flat_place]
  unfold nth
  rw [dif_pos hn]

/-- A trip strikes out the next listed position. -/
theorem pay5_mapAfter : k0_pay5 k0_pay24 (mapAfter f n) = mapAfter f (n + 1) := by
  funext j
  rw [pay5_apply _ _ (mapAfter_le f hf n hn) (mapAfter_first f hf n hn)]
  unfold mapAfter
  rw [struck_succ f negOne ⟨n, hn⟩]
  refine if_congr ⟨fun h => ?_, fun h => ?_⟩ rfl rfl
  · rw [h]; exact Fin.ext (flat_place _)
  · refine flat_injective ?_
    rw [flat_place, ← h]

end

/-- Writing lane `n` of a row filled below `n` fills it below `n + 1`. -/
theorem filled_succ (n : ℕ) (hn : n < 128) (val : ℕ → ℕ) (i : S1x128.Idx) :
    filled n val i + Scalar.select (IntOp.cmpi .eq (BitVec.ofNat 32 (0 * 128 + (i 1).val)) (Scf.iv 0#32 1#32 n))
      ((((BitVec.ofNat 32 (val n)).toInt : ℝ)) : EReal) (Ideal.ofBits .f32 0x00000000#32) = filled (n + 1) val i ∨
      ¬ val n < 2 ^ 31 := by
  by_cases hv : val n < 2 ^ 31
  · left
    have hi := (i 1).isLt
    change (i 1).val < 128 at hi
    have e : Scf.iv 0#32 1#32 n = BitVec.ofNat 32 n := by
      unfold Scf.iv
      rw [BitVec.mul_one, BitVec.zero_add]
    rw [e, toInt_ofNat_small hv, Ideal.ofBits_zero_f32]
    have key : (BitVec.ofNat 32 (0 * 128 + (i 1).val) = BitVec.ofNat 32 n) ↔ (i 1).val = n := by
      constructor
      · intro h
        have := congrArg BitVec.toNat h
        rw [BitVec.toNat_ofNat, BitVec.toNat_ofNat] at this
        omega
      · rintro rfl; rw [zero_mul, zero_add]
    unfold filled Scalar.select IntOp.cmpi
    by_cases h : (i 1).val = n
    · rw [if_neg (by omega), if_pos (show (i 1).val < n + 1 by omega)]
      simp only [beq_iff_eq.2 (key.2 h)]
      rw [h, zero_add]
      simp
    · have hk := fun x => h (key.1 x)
      simp only [beq_eq_false_iff_ne.2 hk]
      have : ((i 1).val < n + 1) ↔ (i 1).val < n := by omega
      rw [if_congr this rfl rfl]
      simp
  · right; exact hv

section
variable (f : Fin 16384 → EReal) (hf : ∀ p, negOne < f p) (n : ℕ) (hn : n < 128)
include hf hn

/-- The row of the position found, as the trip computes it. -/
theorem row_found (i : S1x1.Idx) : k0_pay6 (F := Ideal) k0_pay24 (mapAfter f n) i
    = (((BitVec.ofNat 32 (nth f n / 128)).toInt : ℝ) : EReal) := by
  have h := row_word (nth_lt f n)
  unfold k0_pay6
  rw [pay4_mapAfter f hf n (by omega)]
  rw [← h]
  rfl

/-- The first map's rows of coordinates. -/
theorem rows_step : k0_pay8 (F := Ideal) lanes (filled n fun k => nth f k / 128) (Scf.iv 0#32 1#32 n) (k0_pay6 (F := Ideal) k0_pay24 (mapAfter f n))
    = filled (n + 1) fun k => nth f k / 128 := by
  funext i
  have h := (filled_succ n hn (fun k => nth f k / 128) i).resolve_right (by have := nth_lt f n; omega)
  rw [← h]
  have hr : k0_pay6 (F := Ideal) k0_pay24 (mapAfter f n) = fun _ => (((BitVec.ofNat 32 (nth f n / 128)).toInt : ℝ) : EReal) :=
    funext (row_found f hf n hn)
  rw [hr]
  rfl

/-- The trip writes the column of its pick into the lane of its number. -/
theorem cols_step : k0_pay9 (F := Ideal) lanes (filled n fun k => nth f k % 128) (Scf.iv 0#32 1#32 n) (k0_pay4 k0_pay24 (mapAfter f n))
      (Scalar.select (Scalar.cmpi .eq 128#32 0#32) 1#32 128#32)
    = filled (n + 1) fun k => nth f k % 128 := by
  funext i
  have h := (filled_succ n hn (fun k => nth f k % 128) i).resolve_right (by have := nth_lt f n; omega)
  rw [← h, pay4_mapAfter f hf n (by omega)]
  rw [← col_word (nth_lt f n)]
  rfl

/-- The second map's rows of coordinates. -/
theorem rows_step' : k0_pay16 (F := Ideal) lanes (filled n fun k => nth f k / 128) (Scf.iv 0#32 1#32 n) (k0_pay11 k0_pay24 (mapAfter f n))
      128#32 (k0_pay13 (F := Ideal) k0_pay24 (mapAfter f n)) (k0_pay14 (F := Ideal) k0_pay24 (mapAfter f n))
    = filled (n + 1) fun k => nth f k / 128 := by
  funext i
  have h := (filled_succ n hn (fun k => nth f k / 128) i).resolve_right (by have := nth_lt f n; omega)
  have e : k0_pay11 (F := Ideal) k0_pay24 (mapAfter f n) = fun _ => BitVec.ofNat 32 (nth f n) := pay4_mapAfter f hf n (by omega)
  unfold k0_pay13 k0_pay14
  rw [← h, e]
  rw [← row_word (nth_lt f n)]
  rfl

/-- The same for the second map's column. -/
theorem cols_step' : k0_pay26 (F := Ideal) (filled n fun k => nth f k % 128) (k0_pay15 lanes (Scf.iv 0#32 1#32 n))
      (Scalar.ofBits .f32 0x00000000#32) (k0_pay17 (F := Ideal) (k0_pay11 k0_pay24 (mapAfter f n)))
    = filled (n + 1) fun k => nth f k % 128 := by
  funext i
  have h := (filled_succ n hn (fun k => nth f k % 128) i).resolve_right (by have := nth_lt f n; omega)
  have e : k0_pay11 (F := Ideal) k0_pay24 (mapAfter f n) = fun _ => BitVec.ofNat 32 (nth f n) := pay4_mapAfter f hf n (by omega)
  rw [← h, e]
  rw [← col_word (nth_lt f n)]
  rfl

end

/-- What the loop carries after `n` trips. -/
def after (f g : Fin 16384 → EReal) (n : ℕ) : St Ideal :=
  (mapAfter f n, mapAfter g n, filled n fun k => nth f k / 128, filled n fun k => nth f k % 128,
    filled n fun k => nth g k / 128, filled n fun k => nth g k % 128)

/-- One trip of the loop takes the state after `n` picks to the state after one more. -/
theorem trip_after (f g : Fin 16384 → EReal) (hf : ∀ p, negOne < f p) (hg : ∀ p, negOne < g p)
    (k : Fin k0_t1_loop.trips) (hk : k.val < 128) : trip k (after f g k.val) = after f g (k.val + 1) := by
  unfold trip after
  dsimp only
  rw [pay5_mapAfter f hf _ (by omega), rows_step f hf _ hk, cols_step f hf _ hk, rows_step' g hg _ hk, cols_step' g hg _ hk,
    show k0_pay12 (F := Ideal) k0_pay24 (mapAfter g k.val) = _ from pay5_mapAfter g hg _ (by omega)]

/-- The loop makes one hundred trips. -/
theorem trips_eq : k0_t1_loop.trips = 100 := by decide

/-- The coordinate rows the loop leaves. -/
theorem cols_eq (v6 v8 : Vec Ideal S1x1x128x128 .f32) (h6 : ∀ p, negOne < score v6 p) (h8 : ∀ p, negOne < score v8 p) :
    cols (F := Ideal) v6 v8 = after (score v6) (score v8) 100 := by
  unfold cols
  rw [Scf.fold_eq]
  have h := fold_keeps (trip (F := Ideal)) (fun k s => s = after (score v6) (score v8) k)
    (k0_pay21 v6, k0_pay22 v8, k0_pay25 (F := Ideal), k0_pay25 (F := Ideal), k0_pay25 (F := Ideal), k0_pay25 (F := Ideal)) (by
      have hz : ∀ val, k0_pay25 (F := Ideal) = filled 0 val := fun val => by
        funext i
        unfold filled
        rw [if_neg (by omega)]
        exact Ideal.ofBits_zero_f32
      unfold after
      rw [← mapAfter_zero v6 shapeCasts_S1x1x128x128_S128x128, ← mapAfter_zero v8 shapeCasts_S1x1x128x128_S128x128]
      rw [← hz, ← hz, ← hz, ← hz]
      rfl)
    (fun k s hs => by
      have hk := k.isLt
      rw [hs]
      exact trip_after _ _ h6 h8 k (by have := trips_eq; omega))
  rw [h, trips_eq]

end Cert.Proof.KI

end
-- ==== Proof.Loss.lean ====
module

public import Idealize.ShloMosaic.PureOps.Ideal.Laws
public import Mathlib.Tactic.Ring
public import Mathlib.Tactic.NormNum
public import Mathlib.Algebra.BigOperators.Fin
public import Mathlib.Data.Fin.VecNotation

@[expose] public section

noncomputable section

/-! # The loss of one pair of boxes, twice

A box is five numbers: two coordinates, width, height and angle, each already multiplied by the mask. The kernel writes
out the squared covariance matrices entry by entry; the reference multiplies two-by-two matrices. Over the reals the two
losses are one number. -/

namespace Cert.Proof

open Idealize.ShloMosaic
open scoped BigOperators

/-- The smallest side. -/
abbrev kLo : EReal := Ideal.ofBits .f32 0x33D6BF95#32
/-- The largest side. -/
abbrev kHi : EReal := Ideal.ofBits .f32 0x4B189680#32
/-- One degree in radians. -/
abbrev kDeg : EReal := Ideal.ofBits .f32 0x3C8EFA35#32
/-- One half. -/
abbrev kHalf : EReal := Ideal.ofBits .f32 0x3F000000#32
/-- Two. -/
abbrev kTwo : EReal := Ideal.ofBits .f32 0x40000000#32
/-- Minus two. -/
abbrev kNegTwo : EReal := Ideal.ofBits .f32 0xC0000000#32
/-- One. -/
abbrev kOne : EReal := Ideal.ofBits .f32 0x3F800000#32
/-- Zero. -/
abbrev kZero : EReal := Ideal.ofBits .f32 0x00000000#32
/-- Ninety. -/
abbrev kNinety : EReal := Ideal.ofBits .f32 0x42B40000#32

/-! ## The constants as real numbers -/

/-- The constant zero is the number. -/
theorem kZero_eq : kZero = ((0 : ℝ) : EReal) := by simp [kZero, Ideal.ofBits, Ideal.ieee]
/-- The constant one is the number. -/
theorem kOne_eq : kOne = ((1 : ℝ) : EReal) := by
  simp [kOne, Ideal.ofBits, Ideal.ieee, -EReal.coe_mul]; norm_cast; norm_num
/-- The constant two is the number. -/
theorem kTwo_eq : kTwo = ((2 : ℝ) : EReal) := by
  simp [kTwo, Ideal.ofBits, Ideal.ieee, -EReal.coe_mul]; norm_num
/-- The constant minus two is the number. -/
theorem kNegTwo_eq : kNegTwo = ((-2 : ℝ) : EReal) := by
  simp [kNegTwo, Ideal.ofBits, Ideal.ieee, -EReal.coe_mul]; norm_num
/-- The constant is a real number. -/
theorem kHalf_real : ∃ r : ℝ, kHalf = (r : EReal) := ⟨_, by simp only [kHalf, Ideal.ofBits, Ideal.ieee]; rfl⟩
/-- The constant is a real number. -/
theorem kLo_real : ∃ r : ℝ, kLo = (r : EReal) := ⟨_, by simp only [kLo, Ideal.ofBits, Ideal.ieee]; rfl⟩
/-- The constant is a real number. -/
theorem kHi_real : ∃ r : ℝ, kHi = (r : EReal) := ⟨_, by simp only [kHi, Ideal.ofBits, Ideal.ieee]; rfl⟩
/-- The constant is a real number. -/
theorem kDeg_real : ∃ r : ℝ, kDeg = (r : EReal) := ⟨_, by simp only [kDeg, Ideal.ofBits, Ideal.ieee]; rfl⟩
/-- The constant is a real number. -/
theorem kNinety_real : ∃ r : ℝ, kNinety = (r : EReal) := ⟨_, by simp only [kNinety, Ideal.ofBits, Ideal.ieee]; rfl⟩

/-! ## The kernel's loss -/

/-- Half a side, clipped. -/
def halfSide (w : EReal) : EReal := kHalf * min kHi (max kLo w)

/-- The last part of the kernel's loss, from the squared distance of the centres, the four sines and cosines, the four
    half sides and the squares of the first two. -/
def kCore (d c s c' s' u v u' v' uu vv : EReal) : EReal :=
  let uu' := u' * u'
  let vv' := v' * v'
  let a := (c * c) * uu + (s * s) * vv
  let b := (s * s) * uu + (c * c) * vv
  let o := (c * s) * (uu - vv)
  let a' := (c' * c') * uu' + (s' * s') * vv'
  let b' := (s' * s') * uu' + (c' * c') * vv'
  let o' := (c' * s') * (uu' - vv')
  let tr := (a * a' + (kTwo * o) * o') + b * b'
  let det := (u * v) * (u' * v')
  let whr := (uu + vv) + (uu' + vv')
  Ideal.log1p (max kZero (d + (whr - kTwo * Ideal.sqrt (max kZero (tr + kTwo * det)))))

/-- The kernel's loss of a pair of boxes, before the last step. -/
def kLoss (p t : Fin 5 → EReal) : EReal :=
  kCore ((p 0 - t 0) * (p 0 - t 0) + (p 1 - t 1) * (p 1 - t 1))
    (Ideal.cos (p 4 * kDeg)) (Ideal.sin (p 4 * kDeg)) (Ideal.cos (t 4 * kDeg)) (Ideal.sin (t 4 * kDeg))
    (halfSide (p 2)) (halfSide (p 3)) (halfSide (t 2)) (halfSide (t 3))
    (halfSide (p 2) * halfSide (p 2)) (halfSide (p 3) * halfSide (p 3))

/-- The last step, common to both. -/
def lastStep (x : EReal) : EReal := kOne - Ideal.div kOne (kOne + x)

/-! ## The reference's loss -/

/-- An entry of the identity matrix. -/
def eye (i j : Fin 2) : EReal := if i = j then 1 else 0

/-- An entry of the diagonal matrix of half sides. -/
def rDiag (p : Fin 5 → EReal) (i j : Fin 2) : EReal :=
  kHalf * (min kHi (max kLo (![p 2, p 3] i)) * eye i j)

/-- An entry of the rotation matrix. -/
def rRot (p : Fin 5 → EReal) (i j : Fin 2) : EReal :=
  ![![Ideal.cos (p 4 * kDeg), -Ideal.sin (p 4 * kDeg)], ![Ideal.sin (p 4 * kDeg), Ideal.cos (p 4 * kDeg)]] i j

/-- An entry of the covariance matrix. -/
def rSig (p : Fin 5 → EReal) (i j : Fin 2) : EReal :=
  ∑ k : Fin 2, (∑ l : Fin 2, rRot p i l * (rDiag p l k * rDiag p l k)) * rRot p j k

/-- The reference's loss of a pair of boxes, before the last step. -/
def rLoss (p t : Fin 5 → EReal) : EReal :=
  let xy := kZero + ∑ k : Fin 2, (![p 0, p 1] k - ![t 0, t 1] k) * (![p 0, p 1] k - ![t 0, t 1] k)
  let whr := (kZero + ∑ k : Fin 2, rDiag p k k * rDiag p k k) + (kZero + ∑ k : Fin 2, rDiag t k k * rDiag t k k)
  let tr := kZero + ∑ j : Fin 2, ∑ k : Fin 2, rSig p j k * rSig t k j
  let det := (rDiag p 0 0 * rDiag p 1 1) * (rDiag t 0 0 * rDiag t 1 1)
  Ideal.log1p (max kZero (xy + kOne * (whr + kNegTwo * Ideal.sqrt (max kZero (tr + kTwo * det)))))

/-! ## They are equal -/

/-- The smaller of two reals, among the extended reals. -/
theorem coe_min' (a b : ℝ) : ((min a b : ℝ) : EReal) = min (a : EReal) b := EReal.coe_strictMono.monotone.map_min
/-- The larger of two reals, among the extended reals. -/
theorem coe_max' (a b : ℝ) : ((max a b : ℝ) : EReal) = max (a : EReal) b := EReal.coe_strictMono.monotone.map_max

/-- A clipped side is a real number. -/
theorem halfSide_real (w : EReal) : ∃ r : ℝ, halfSide w = (r : EReal) := by
  obtain ⟨l, hl⟩ := kLo_real
  obtain ⟨h, hh⟩ := kHi_real
  obtain ⟨k, hk⟩ := kHalf_real
  unfold halfSide
  rw [hl, hh, hk]
  induction w with
  | bot => exact ⟨k * min h l, by rw [max_bot_right, ← coe_min', ← EReal.coe_mul]⟩
  | top => exact ⟨k * h, by rw [max_top_right, min_top_right, ← EReal.coe_mul]⟩
  | coe w => exact ⟨k * min h (max l w), by rw [← coe_max', ← coe_min', ← EReal.coe_mul]⟩

/-- The diagonal matrix holds the half sides and zeros. -/
theorem rDiag_same (p : Fin 5 → EReal) : rDiag p 0 0 = halfSide (p 2) ∧ rDiag p 1 1 = halfSide (p 3)
    ∧ rDiag p 0 1 = 0 ∧ rDiag p 1 0 = 0 := by
  refine ⟨?_, ?_, ?_, ?_⟩
  · show kHalf * (min kHi (max kLo (p 2)) * eye 0 0) = _
    simp [eye, halfSide]
  · show kHalf * (min kHi (max kLo (p 3)) * eye 1 1) = _
    simp [eye, halfSide]
  · simp [rDiag, eye]
  · simp [rDiag, eye]

/-- The two losses of a pair of boxes whose coordinates and angles are finite agree. -/
theorem kLoss_eq_rLoss (p t : Fin 5 → EReal) (hp : ∃ r : ℝ, p 4 = (r : EReal)) (ht : ∃ r : ℝ, t 4 = (r : EReal)) :
    kLoss p t = rLoss p t := by
  obtain ⟨g, hg⟩ := hp
  obtain ⟨g', hg'⟩ := ht
  obtain ⟨dg, hdg⟩ := kDeg_real
  obtain ⟨u, hu⟩ := halfSide_real (p 2)
  obtain ⟨v, hv⟩ := halfSide_real (p 3)
  obtain ⟨u', hu'⟩ := halfSide_real (t 2)
  obtain ⟨v', hv'⟩ := halfSide_real (t 3)
  obtain ⟨p00, p11, p01, p10⟩ := rDiag_same p
  obtain ⟨t00, t11, t01, t10⟩ := rDiag_same t
  have hc : ∀ x : ℝ, Ideal.cos ((x : EReal) * (dg : EReal)) = ((Real.cos (x * dg) : ℝ) : EReal) := fun x => by
    rw [← EReal.coe_mul, Ideal.cos_coe]
  have hs : ∀ x : ℝ, Ideal.sin ((x : EReal) * (dg : EReal)) = ((Real.sin (x * dg) : ℝ) : EReal) := fun x => by
    rw [← EReal.coe_mul, Ideal.sin_coe]
  have h2 : ∀ x : EReal, kNegTwo * x = -(kTwo * x) := fun x => by
    rw [kNegTwo_eq, kTwo_eq, EReal.coe_neg, EReal.neg_mul]
  unfold kLoss rLoss kCore rSig rRot
  dsimp only
  simp only [Fin.sum_univ_two, Matrix.cons_val_zero, Matrix.cons_val_one, p00, p11, p01, p10, t00, t11, t01, t10,
    hg, hg', hdg, hc, hs, hu, hv, hu', hv', h2]
  rw [kZero_eq, kOne_eq, kTwo_eq, EReal.coe_one, one_mul, EReal.coe_zero]
  simp only [zero_add, mul_zero, add_zero, zero_mul]
  simp only [← EReal.coe_mul, ← EReal.coe_add, ← EReal.coe_sub, ← EReal.coe_neg]
  have e : ∀ d a b : EReal, a = b → Ideal.log1p (max 0 (d + a)) = Ideal.log1p (max 0 (d + b)) := fun d a b h => by rw [h]
  have e' : ∀ (w : EReal) (a b : ℝ), a = b →
      w - ((2 : ℝ) : EReal) * Ideal.sqrt (max 0 (a : EReal)) = w + -(((2 : ℝ) : EReal) * Ideal.sqrt (max 0 (b : EReal))) :=
    fun w a b h => by rw [h, sub_eq_add_neg]
  refine e _ _ _ (e' _ _ _ ?_)
  ring

/-- A pair of boxes of no size, place or angle has loss nothing. -/
theorem lastStep_kLoss_zero : lastStep (kLoss (fun _ => 0) (fun _ => 0)) = 0 := by
  obtain ⟨u, hu⟩ := halfSide_real 0
  have hu2 : 0 ≤ u * u := mul_self_nonneg u
  unfold kLoss kCore lastStep
  simp only [hu, zero_mul]
  rw [← EReal.coe_zero, Ideal.cos_coe, Ideal.sin_coe, Real.cos_zero, Real.sin_zero, kTwo_eq, kOne_eq, kZero_eq]
  have hsq : Ideal.sqrt (max ((0 : ℝ) : EReal) (((4 * (u * u) * (u * u) : ℝ)) : EReal)) = ((2 * (u * u) : ℝ) : EReal) := by
    rw [max_eq_right (by rw [EReal.coe_le_coe_iff]; exact mul_nonneg (mul_nonneg (by norm_num) hu2) hu2), Ideal.sqrt_coe,
      if_neg (not_lt.2 (mul_nonneg (mul_nonneg (by norm_num) hu2) hu2))]
    congr 1
    rw [show 4 * (u * u) * (u * u) = (2 * (u * u)) ^ 2 by ring]
    exact Real.sqrt_sq (mul_nonneg (by norm_num) hu2)
  simp only [← EReal.coe_mul, ← EReal.coe_add, ← EReal.coe_sub, ← EReal.coe_neg]
  rw [show (1 * 1 * (u * u) + 0 * 0 * (u * u)) * (1 * 1 * (u * u) + 0 * 0 * (u * u))
      + 2 * (1 * 0 * (u * u - u * u)) * (1 * 0 * (u * u - u * u))
      + (0 * 0 * (u * u) + 1 * 1 * (u * u)) * (0 * 0 * (u * u) + 1 * 1 * (u * u)) + 2 * (u * u * (u * u))
      = 4 * (u * u) * (u * u) by ring, hsq]
  simp only [← EReal.coe_mul, ← EReal.coe_add, ← EReal.coe_sub, ← EReal.coe_neg]
  rw [show (0 - 0) * (0 - 0) + (0 - 0) * (0 - 0) + (u * u + u * u + (u * u + u * u) - 2 * (2 * (u * u))) = (0 : ℝ) by ring,
    max_self]
  have hl : Ideal.log1p ((0 : ℝ) : EReal) = ((0 : ℝ) : EReal) := by
    unfold Ideal.log1p
    rw [← EReal.coe_one, ← EReal.coe_add, Ideal.log_coe, if_neg (by norm_num), add_zero, Real.log_one]
  have hd : Ideal.div ((1 : ℝ) : EReal) ((1 : ℝ) : EReal) = ((1 : ℝ) : EReal) := by
    unfold Ideal.div
    rw [EReal.coe_one, if_neg (by norm_num), inv_one, one_mul]
  rw [hl, ← EReal.coe_add, add_zero, hd, ← EReal.coe_sub, sub_self]

end Cert.Proof

end
-- ==== Proof.KRow.lean ====
module

public import proofs.«01_k».proof.Proof.Extract
public import proofs.«01_k».proof.Proof.Loss

@[expose] public section

set_option maxRecDepth 65536

noncomputable section

/-! # A row of the kernel's loss column

Row `k` of the column is the loss of the pair of boxes whose coordinates are those found at place `k` and whose sides and
angle are read off the maps at the row and column the misc block names. -/

namespace Cert.Proof.KI

open Cert.KernelIdeal Cert.KernelIdeal.Gen
open Idealize.ShloMosaic Idealize.ShloMosaic.ValueIdx
open scoped BigOperators

/-! ## The two contractions -/

/-- The transposing product's left index along axis 0. -/
theorem dotE_lhs_0 (i : S128x4.Idx) (q : DotDims.contr dot_S128x128_S4x128_S128x4_1_1_0_0_n_n |>.Idx) : (DotDims.lhsIdx dot_S128x128_S4x128_S128x4_1_1_0_0_n_n i q 0).val = (i 0).val := by
  unfold DotDims.lhsIdx
  rw [dif_neg (show ¬(0 : Fin S128x128.rank) ∈ DotDims.lhsBatch dot_S128x128_S4x128_S128x4_1_1_0_0_n_n by decide),
    dif_pos (show (0 : Fin S128x128.rank) ∈ DotDims.lhsNonContracting dot_S128x128_S4x128_S128x4_1_1_0_0_n_n by decide)]
  rfl
/-- The transposing product's left index along axis 1. -/
theorem dotE_lhs_1 (i : S128x4.Idx) (q : DotDims.contr dot_S128x128_S4x128_S128x4_1_1_0_0_n_n |>.Idx) :
    (DotDims.lhsIdx dot_S128x128_S4x128_S128x4_1_1_0_0_n_n i q 1).val = (q ⟨0, by decide⟩).val := DotDims.lhsIdx_val_of_single dot_S128x128_S4x128_S128x4_1_1_0_0_n_n rfl i q
/-- The transposing product's right index along axis 0. -/
theorem dotE_rhs_0 (i : S128x4.Idx) (q : DotDims.contr dot_S128x128_S4x128_S128x4_1_1_0_0_n_n |>.Idx) : (DotDims.rhsIdx dot_S128x128_S4x128_S128x4_1_1_0_0_n_n i q 0).val = (i 1).val := by
  unfold DotDims.rhsIdx
  rw [dif_neg (show ¬(0 : Fin S4x128.rank) ∈ DotDims.rhsBatch dot_S128x128_S4x128_S128x4_1_1_0_0_n_n by decide),
    dif_pos (show (0 : Fin S4x128.rank) ∈ DotDims.rhsNonContracting dot_S128x128_S4x128_S128x4_1_1_0_0_n_n by decide)]
  rfl
/-- The transposing product's right index along axis 1. -/
theorem dotE_rhs_1 (i : S128x4.Idx) (q : DotDims.contr dot_S128x128_S4x128_S128x4_1_1_0_0_n_n |>.Idx) :
    (DotDims.rhsIdx dot_S128x128_S4x128_S128x4_1_1_0_0_n_n i q 1).val = (q ⟨0, by decide⟩).val := DotDims.rhsIdx_val_of_single dot_S128x128_S4x128_S128x4_1_1_0_0_n_n rfl i q

/-- The contraction that turns rows into columns, at an entry. -/
theorem dotE_apply (x : FVec Ideal S128x128 .f32) (y : FVec Ideal S4x128 .f32) (k : Fin 128) (c : Fin 4) :
    matmul dot_S128x128_S4x128_S128x4_1_1_0_0_n_n none x y (constant S128x4 .f32 0x00000000#32) (ix2 k c) = ∑ l : Fin 128, x (ix2 k l) * y (ix2 c l) := by
  simp only [matmul]
  rw [Ideal.matmul_constant_zero_apply, ← Equiv.sum_comp (contrEquiv1 dot_S128x128_S4x128_S128x4_1_1_0_0_n_n 128 rfl rfl).symm]
  refine Finset.sum_congr rfl fun l _ => ?_
  have hl := contrEquiv1_symm_val dot_S128x128_S4x128_S128x4_1_1_0_0_n_n 128 rfl rfl l
  exact congrArg₂ (· * ·)
    (congrArg x (Shape.idx_ext₂ (dotE_lhs_0 _ _) ((dotE_lhs_1 _ _).trans hl)))
    (congrArg y (Shape.idx_ext₂ (dotE_rhs_0 _ _) ((dotE_rhs_1 _ _).trans hl)))

/-- The gathering product's left index along axis 0. -/
theorem dotG_lhs_0 (i : S128x384.Idx) (q : DotDims.contr dot_S128x128_S128x384_S128x384_1_0_0_1_n_n |>.Idx) : (DotDims.lhsIdx dot_S128x128_S128x384_S128x384_1_0_0_1_n_n i q 0).val = (i 0).val := by
  unfold DotDims.lhsIdx
  rw [dif_neg (show ¬(0 : Fin S128x128.rank) ∈ DotDims.lhsBatch dot_S128x128_S128x384_S128x384_1_0_0_1_n_n by decide),
    dif_pos (show (0 : Fin S128x128.rank) ∈ DotDims.lhsNonContracting dot_S128x128_S128x384_S128x384_1_0_0_1_n_n by decide)]
  rfl
/-- The gathering product's left index along axis 1. -/
theorem dotG_lhs_1 (i : S128x384.Idx) (q : DotDims.contr dot_S128x128_S128x384_S128x384_1_0_0_1_n_n |>.Idx) :
    (DotDims.lhsIdx dot_S128x128_S128x384_S128x384_1_0_0_1_n_n i q 1).val = (q ⟨0, by decide⟩).val := DotDims.lhsIdx_val_of_single dot_S128x128_S128x384_S128x384_1_0_0_1_n_n rfl i q
/-- The gathering product's right index along axis 0. -/
theorem dotG_rhs_0 (i : S128x384.Idx) (q : DotDims.contr dot_S128x128_S128x384_S128x384_1_0_0_1_n_n |>.Idx) :
    (DotDims.rhsIdx dot_S128x128_S128x384_S128x384_1_0_0_1_n_n i q 0).val = (q ⟨0, by decide⟩).val := DotDims.rhsIdx_val_of_single dot_S128x128_S128x384_S128x384_1_0_0_1_n_n rfl i q
/-- The gathering product's right index along axis 1. -/
theorem dotG_rhs_1 (i : S128x384.Idx) (q : DotDims.contr dot_S128x128_S128x384_S128x384_1_0_0_1_n_n |>.Idx) : (DotDims.rhsIdx dot_S128x128_S128x384_S128x384_1_0_0_1_n_n i q 1).val = (i 1).val := by
  unfold DotDims.rhsIdx
  rw [dif_neg (show ¬(1 : Fin S128x384.rank) ∈ DotDims.rhsBatch dot_S128x128_S128x384_S128x384_1_0_0_1_n_n by decide),
    dif_pos (show (1 : Fin S128x384.rank) ∈ DotDims.rhsNonContracting dot_S128x128_S128x384_S128x384_1_0_0_1_n_n by decide)]
  rfl

/-- The contraction that gathers rows, at an entry. -/
theorem dotG_apply (x : FVec Ideal S128x128 .f32) (y : FVec Ideal S128x384 .f32) (k : Fin 128) (c : Fin 384) :
    matmul dot_S128x128_S128x384_S128x384_1_0_0_1_n_n none x y (constant S128x384 .f32 0x00000000#32) (ix2 k c) = ∑ l : Fin 128, x (ix2 k l) * y (ix2 l c) := by
  simp only [matmul]
  rw [Ideal.matmul_constant_zero_apply, ← Equiv.sum_comp (contrEquiv1 dot_S128x128_S128x384_S128x384_1_0_0_1_n_n 128 rfl rfl).symm]
  refine Finset.sum_congr rfl fun l _ => ?_
  have hl := contrEquiv1_symm_val dot_S128x128_S128x384_S128x384_1_0_0_1_n_n 128 rfl rfl l
  exact congrArg₂ (· * ·)
    (congrArg x (Shape.idx_ext₂ (dotG_lhs_0 _ _) ((dotG_lhs_1 _ _).trans hl)))
    (congrArg y (Shape.idx_ext₂ ((dotG_rhs_0 _ _).trans hl) (dotG_rhs_1 _ _)))

/-! ## One-hot entries -/

/-- The entry of a one-hot row: one where the two numbers agree. -/
def hot (x y : EReal) : EReal := ((((Ideal.cmp .oeq x y).setWidth 32).toInt : ℝ) : EReal)

/-- The one-hot entry of equal numbers is one. -/
theorem hot_self (x : EReal) : hot x x = 1 := by
  unfold hot Ideal.cmp
  simp

/-- The one-hot entry of different numbers is zero. -/
theorem hot_ne {x y : EReal} (h : x ≠ y) : hot x y = 0 := by
  unfold hot Ideal.cmp
  simp [h]

/-- The number of a lane as a score. -/
def num (l : ℕ) : EReal := ((l : ℝ) : EReal)

/-- Different naturals are different numbers. -/
theorem num_injective {a b : ℕ} (h : num a = num b) : a = b := by
  unfold num at h
  exact_mod_cast h

/-- A sum against a one-hot row on the left picks one term. -/
theorem sum_hot_left (r : Fin 128) (y : Fin 128 → EReal) : ∑ l : Fin 128, hot (num l.val) (num r.val) * y l = y r := by
  rw [Finset.sum_eq_single r (fun l _ hl => by rw [hot_ne (fun h => hl (Fin.ext (num_injective h))), zero_mul])
    (fun h => absurd (Finset.mem_univ _) h), hot_self, one_mul]

/-- A sum against a one-hot row on the right picks one term. -/
theorem sum_hot_right (r : Fin 128) (y : Fin 128 → EReal) : ∑ l : Fin 128, y l * hot (num l.val) (num r.val) = y r := by
  rw [Finset.sum_eq_single r (fun l _ hl => by rw [hot_ne (fun h => hl (Fin.ext (num_injective h))), mul_zero])
    (fun h => absurd (Finset.mem_univ _) h), hot_self, mul_one]

/-- The row of lane numbers. -/
theorem pay32_apply (l : Fin 128) : k0_pay32 (F := Ideal) (ix2 0 l) = num l.val := by
  unfold k0_pay32
  show (((BitVec.ofNat 32 (0 * 128 + l.val)).toInt : ℝ) : EReal) = _
  have hl := l.isLt
  rw [toInt_ofNat_small (by omega)]
  unfold num
  simp

/-! ## The coordinates as columns -/

/-- The four coordinate rows, one above another. -/
abbrev rows4 (a b c d : FVec Ideal S1x128 .f32) : List ((s : Shape) × (s.Idx → EReal)) :=
  [⟨S1x128, a⟩, ⟨S1x128, b⟩, ⟨S1x128, c⟩, ⟨S1x128, d⟩]

/-- The contraction with the unit matrix turns the four rows into four columns. -/
theorem pay27_apply (a b c d : FVec Ideal S1x128 .f32) (k : Fin 128) :
    k0_pay27 a b c d (ix2 k 0) = a (ix2 0 k) ∧ k0_pay27 a b c d (ix2 k 1) = b (ix2 0 k)
      ∧ k0_pay27 a b c d (ix2 k 2) = c (ix2 0 k) ∧ k0_pay27 a b c d (ix2 k 3) = d (ix2 0 k) := by
  have he : ∀ l : Fin 128, sitofp (F := Ideal) .f32 (extui 32 (cmpi .eq (iota .tc S128x128 32 [0] iota_S128x128_d0_w32)
      (iota .tc S128x128 32 [1] iota_S128x128_d1_w32)) natLt_1_32) (ix2 k l) = if k = l then 1 else 0 := fun l => by
    show ((((IntOp.cmpi .eq (BitVec.ofNat 32 (0 * 128 + k.val)) (BitVec.ofNat 32 (0 * 128 + l.val))).setWidth 32).toInt : ℝ) : EReal) = _
    have hk := k.isLt
    have hl := l.isLt
    by_cases h : k = l
    · subst h; simp [IntOp.cmpi]
    · rw [if_neg h]
      have hn : ¬ (BitVec.ofNat 32 (0 * 128 + k.val) = BitVec.ofNat 32 (0 * 128 + l.val)) := fun e => by
        have := congrArg BitVec.toNat e
        rw [BitVec.toNat_ofNat, BitVec.toNat_ofNat] at this
        exact h (Fin.ext (by omega))
      unfold IntOp.cmpi
      simp only [beq_eq_false_iff_ne.2 hn]
      simp
  have hsum : ∀ (y : Fin 128 → EReal), (∑ l : Fin 128, (if k = l then (1 : EReal) else 0) * y l) = y k := fun y => by
    rw [Finset.sum_eq_single k (fun l _ hl => by rw [if_neg (Ne.symm hl), zero_mul])
      (fun h => absurd (Finset.mem_univ _) h), if_pos rfl, one_mul]
  have hr : ∀ (c' : Fin 4) (z : FVec Ideal S1x128 .f32) (hz : ∀ l : Fin 128,
      concatenate S4x128 0 [⟨S1x128, a⟩, ⟨S1x128, b⟩, ⟨S1x128, c⟩, ⟨S1x128, d⟩]
        concatenates_S1x128_S1x128_S1x128_S1x128_S4x128_d0 (ix2 c' l) = z (ix2 0 l)),
      k0_pay27 a b c d (ix2 k c') = z (ix2 0 k) := fun c' z hz => by
    unfold k0_pay27
    dsimp only
    rw [dotE_apply]
    simp only [he, hz]
    exact hsum fun l => z (ix2 0 l)
  have piece : ∀ (n : ℕ) (hn : n < 4) (z : FVec Ideal S1x128 .f32) (hz : (rows4 a b c d)[n]'hn = ⟨S1x128, z⟩)
      (hp : ((((rows4 a b c d).take n).map (·.1)).map
        (fun s => if h : s.rank = S4x128.rank then s.size ((0 : Fin S4x128.rank).cast h.symm) else 0)).sum = n)
      (l : Fin 128),
      concatenate S4x128 0 (rows4 a b c d)
        concatenates_S1x128_S1x128_S1x128_S1x128_S4x128_d0 (ix2 ⟨n, hn⟩ l) = z (ix2 0 l) := fun n hn z hz hp l =>
    concatenate_apply_piece (t := S4x128) 0 (rows4 a b c d) concatenates_S1x128_S1x128_S1x128_S1x128_S4x128_d0
      (ix2 ⟨n, hn⟩ l) n hn S1x128 z hz rfl n hp (ix2 0 l)
      (fun b hb => by
        match b with
        | ⟨0, _⟩ => exact absurd rfl hb
        | ⟨1, _⟩ => rfl) (Nat.add_zero n)
  exact ⟨hr 0 a (piece 0 (by decide) a rfl rfl), hr 1 b (piece 1 (by decide) b rfl rfl),
    hr 2 c (piece 2 (by decide) c rfl rfl), hr 3 d (piece 3 (by decide) d rfl rfl)⟩

/-! ## The gathered sides and angle -/

section
variable (v1 v3 v5 : FVec Ideal S128x128 .f32) (v11 : FVec Ideal S128x16 .f32) (k : Fin 128) (r c : Fin 128)
  (hr : v11 (ix2 k 4) = num r.val) (hc : v11 (ix2 k 5) = num c.val)

/-- A column of the misc block. -/
theorem slice_apply (n : Fin 16) (off : Fin 2 → ℕ) (ho : off = ![0, n.val]) (h : S128x16.Slices off S128x1) :
    extractStridedSlice S128x1 off v11 h (ix2 k 0) = v11 (ix2 k n) := by
  subst ho
  exact extractStridedSlice_apply _ v11 h (ix2 k 0) (ix2 k n) (fun a => match a with
    | ⟨0, _⟩ => (Nat.zero_add _).symm
    | ⟨1, _⟩ => rfl)

include hc in
/-- The one-hot columns. -/
theorem pay33_apply (l : Fin 128) : k0_pay33 v11 (ix2 k l) = hot (num l.val) (num c.val) := by
  unfold k0_pay33
  have e1 : broadcastTo S128x128 (k0_pay32 (F := Ideal)) broadcasts_S1x128_S128x128 (ix2 k l) = num l.val := by
    rw [broadcastTo_apply (k0_pay32 (F := Ideal)) broadcasts_S1x128_S128x128 (ix2 k l) (ix2 0 l)
      (fun a => match a with
        | ⟨0, _⟩ => by simp
        | ⟨1, _⟩ => by rfl), pay32_apply]
  have e2 : broadcastTo S128x128 (extractStridedSlice S128x1 ![0, 5] v11 slices_S128x16_o0_5_S128x1)
      broadcasts_S128x1_S128x128 (ix2 k l) = num c.val := by
    rw [broadcastTo_apply _ broadcasts_S128x1_S128x128 (ix2 k l) (ix2 k 0)
      (fun a => match a with
        | ⟨0, _⟩ => by rfl
        | ⟨1, _⟩ => by rfl), slice_apply v11 k 5 ![0, 5] rfl, hc]
  show hot _ _ = _
  rw [e1, e2]

include hr in
/-- The product with the one-hot rows picks a row of the features. -/
theorem pay34_apply (n : Fin 384) (y : Fin 128 → EReal)
    (hy : ∀ l : Fin 128, concatenate S128x384 1 [⟨S128x128, v1⟩, ⟨S128x128, v3⟩, ⟨S128x128, v5⟩]
      concatenates_S128x128_S128x128_S128x128_S128x384_d1 (ix2 l n) = y l) :
    k0_pay34 v1 v3 v5 v11 (ix2 k n) = y r := by
  unfold k0_pay34
  rw [dotG_apply]
  rw [← sum_hot_left r y]
  refine Finset.sum_congr rfl fun l _ => ?_
  rw [hy]
  have e1 : broadcastTo S128x128 (k0_pay32 (F := Ideal)) broadcasts_S1x128_S128x128 (ix2 k l) = num l.val := by
    rw [broadcastTo_apply (k0_pay32 (F := Ideal)) broadcasts_S1x128_S128x128 (ix2 k l) (ix2 0 l)
      (fun a => match a with
        | ⟨0, _⟩ => by simp
        | ⟨1, _⟩ => by rfl), pay32_apply]
  have e2 : broadcastTo S128x128 (extractStridedSlice S128x1 ![0, 4] v11 slices_S128x16_o0_4_S128x1)
      broadcasts_S128x1_S128x128 (ix2 k l) = num r.val := by
    rw [broadcastTo_apply _ broadcasts_S128x1_S128x128 (ix2 k l) (ix2 k 0)
      (fun a => match a with
        | ⟨0, _⟩ => by rfl
        | ⟨1, _⟩ => by rfl), slice_apply v11 k 4 ![0, 4] rfl, hr]
  have e3 : sitofp (F := Ideal) .f32 (extui 32 (cmpf .oeq
      (broadcastTo S128x128 (k0_pay32 (F := Ideal)) broadcasts_S1x128_S128x128)
      (broadcastTo S128x128 (extractStridedSlice S128x1 ![0, 4] v11 slices_S128x16_o0_4_S128x1)
      broadcasts_S128x1_S128x128)) natLt_1_32) (ix2 k l) = hot (num l.val) (num r.val) := by
    show hot _ _ = _
    rw [e1, e2]
  rw [e3]

/-- The three maps as the pieces of one. -/
abbrev maps3 (v1 v3 v5 : FVec Ideal S128x128 .f32) : List ((s : Shape) × (s.Idx → EReal)) :=
  [⟨S128x128, v1⟩, ⟨S128x128, v3⟩, ⟨S128x128, v5⟩]

/-- The three maps side by side. -/
theorem concat3_apply (l j : Fin 128) :
    concatenate S128x384 1 [⟨S128x128, v1⟩, ⟨S128x128, v3⟩, ⟨S128x128, v5⟩]
      concatenates_S128x128_S128x128_S128x128_S128x384_d1 (ix2 l ⟨j.val, by omega⟩) = v1 (ix2 l j)
    ∧ concatenate S128x384 1 [⟨S128x128, v1⟩, ⟨S128x128, v3⟩, ⟨S128x128, v5⟩]
      concatenates_S128x128_S128x128_S128x128_S128x384_d1 (ix2 l ⟨128 + j.val, by omega⟩) = v3 (ix2 l j)
    ∧ concatenate S128x384 1 [⟨S128x128, v1⟩, ⟨S128x128, v3⟩, ⟨S128x128, v5⟩]
      concatenates_S128x128_S128x128_S128x128_S128x384_d1 (ix2 l ⟨256 + j.val, by omega⟩) = v5 (ix2 l j) := by
  refine ⟨?_, ?_, ?_⟩
  · exact concatenate_apply_piece (t := S128x384) 1 (maps3 v1 v3 v5) concatenates_S128x128_S128x128_S128x128_S128x384_d1 _ 0 (show 0 < 3 by decide)
      S128x128 v1 rfl rfl 0 rfl (ix2 l j) (fun b hb => by
        match b with
        | ⟨0, _⟩ => rfl
        | ⟨1, _⟩ => exact absurd rfl hb) (Nat.zero_add _)
  · exact concatenate_apply_piece (t := S128x384) 1 (maps3 v1 v3 v5) concatenates_S128x128_S128x128_S128x128_S128x384_d1 _ 1 (show 1 < 3 by decide)
      S128x128 v3 rfl rfl 128 rfl (ix2 l j) (fun b hb => by
        match b with
        | ⟨0, _⟩ => rfl
        | ⟨1, _⟩ => exact absurd rfl hb) rfl
  · exact concatenate_apply_piece (t := S128x384) 1 (maps3 v1 v3 v5) concatenates_S128x128_S128x128_S128x128_S128x384_d1 _ 2 (show 2 < 3 by decide)
      S128x128 v5 rfl rfl 256 rfl (ix2 l j) (fun b hb => by
        match b with
        | ⟨0, _⟩ => rfl
        | ⟨1, _⟩ => exact absurd rfl hb) rfl

/-- A sum over the lanes of a row, as a column's entry. -/
theorem rowSum_apply (x : FVec Ideal S128x128 .f32) :
    shapeCast S128x1 (multiReduction (F := Ideal) .add [1] S128 x 0x00000000#32 reduces_S128x128_S128 (.inl rfl) rfl)
      shapeCasts_S128_S128x1 (ix2 k 0) = ∑ l : Fin 128, x (ix2 k l) := by
  rw [shapeCast_apply _ shapeCasts_S128_S128x1 (ix2 k 0) (ix1 k) (by
    rw [Shape.rowMajor_val_one, Shape.rowMajor_val_two]; show k.val = k.val * 1 + 0; omega)]
  refine (Ideal.multiReduction_add_single x _ reduces_S128x128_S128 (.inl rfl) rfl (ix1 k)).trans ?_
  exact Finset.sum_congr rfl fun l _ => congrArg x (Shape.idx_ext₂ rfl rfl)

include hr hc

/-- The predicted width. -/
theorem pay37_apply : k0_pay37 v1 v3 v5 v11 (ix2 k 0) = (v1 (ix2 r c) * kTwo) * v11 (ix2 k 3) := by
  unfold k0_pay37
  show (shapeCast S128x1 _ _ (ix2 k 0) * kTwo) * extractStridedSlice S128x1 ![0, 3] v11 slices_S128x16_o0_3_S128x1 (ix2 k 0) = _
  rw [rowSum_apply, slice_apply v11 k 3 ![0, 3] rfl]
  congr 2
  rw [← sum_hot_right c fun j => v1 (ix2 r j)]
  refine Finset.sum_congr rfl fun l _ => ?_
  show extractStridedSlice S128x128 ![0, 0] (k0_pay34 v1 v3 v5 v11) slices_S128x384_o0_0_S128x128 (ix2 k l) * k0_pay33 v11 (ix2 k l) = _
  rw [pay33_apply v11 k c hc, extractStridedSlice_apply _ _ _ (ix2 k l) (ix2 k ⟨l.val, by omega⟩) (fun a => match a with
    | ⟨0, _⟩ => (Nat.zero_add _).symm
    | ⟨1, _⟩ => (Nat.zero_add _).symm), pay34_apply v1 v3 v5 v11 k r hr _ (fun i => v1 (ix2 i l))
      (fun i => (concat3_apply v1 v3 v5 i l).1)]

/-- The predicted height. -/
theorem pay38_apply : k0_pay38 v1 v3 v5 v11 (ix2 k 0) = (v3 (ix2 r c) * kTwo) * v11 (ix2 k 3) := by
  unfold k0_pay38
  show (shapeCast S128x1 _ _ (ix2 k 0) * kTwo) * extractStridedSlice S128x1 ![0, 3] v11 slices_S128x16_o0_3_S128x1 (ix2 k 0) = _
  rw [rowSum_apply, slice_apply v11 k 3 ![0, 3] rfl]
  congr 2
  rw [← sum_hot_right c fun j => v3 (ix2 r j)]
  refine Finset.sum_congr rfl fun l _ => ?_
  show extractStridedSlice S128x128 ![0, 128] (k0_pay34 v1 v3 v5 v11) slices_S128x384_o0_128_S128x128 (ix2 k l) * k0_pay33 v11 (ix2 k l) = _
  rw [pay33_apply v11 k c hc, extractStridedSlice_apply _ _ _ (ix2 k l) (ix2 k ⟨128 + l.val, by omega⟩) (fun a => match a with
    | ⟨0, _⟩ => (Nat.zero_add _).symm
    | ⟨1, _⟩ => rfl), pay34_apply v1 v3 v5 v11 k r hr _ (fun i => v3 (ix2 i l))
      (fun i => (concat3_apply v1 v3 v5 i l).2.1)]

/-- The predicted angle. -/
theorem pay39_apply : k0_pay39 v1 v3 v5 v11 (ix2 k 0) = (v5 (ix2 r c) - kNinety) * v11 (ix2 k 3) := by
  unfold k0_pay39
  show (shapeCast S128x1 _ _ (ix2 k 0) - kNinety) * extractStridedSlice S128x1 ![0, 3] v11 slices_S128x16_o0_3_S128x1 (ix2 k 0) = _
  rw [rowSum_apply, slice_apply v11 k 3 ![0, 3] rfl]
  congr 2
  rw [← sum_hot_right c fun j => v5 (ix2 r j)]
  refine Finset.sum_congr rfl fun l _ => ?_
  show extractStridedSlice S128x128 ![0, 256] (k0_pay34 v1 v3 v5 v11) slices_S128x384_o0_256_S128x128 (ix2 k l) * k0_pay33 v11 (ix2 k l) = _
  rw [pay33_apply v11 k c hc, extractStridedSlice_apply _ _ _ (ix2 k l) (ix2 k ⟨256 + l.val, by omega⟩) (fun a => match a with
    | ⟨0, _⟩ => (Nat.zero_add _).symm
    | ⟨1, _⟩ => rfl), pay34_apply v1 v3 v5 v11 k r hr _ (fun i => v5 (ix2 i l))
      (fun i => (concat3_apply v1 v3 v5 i l).2.2)]

end

end Cert.Proof.KI

end
-- ==== Proof.KBox.lean ====
module

public import proofs.«01_k».proof.Proof.KRow

@[expose] public section

set_option maxRecDepth 65536

noncomputable section

/-! # The kernel's loss column as losses of boxes -/

namespace Cert.Proof

open Idealize.ShloMosaic

/-- A box of five numbers: place, sides doubled, angle turned by ninety degrees, all under the mask. -/
def box (y x a b g m : EReal) : Fin 5 → EReal := ![y * m, x * m, (a * kTwo) * m, (b * kTwo) * m, (g - kNinety) * m]

end Cert.Proof

namespace Cert.Proof.KI

open Cert.KernelIdeal Cert.KernelIdeal.Gen
open Idealize.ShloMosaic Idealize.ShloMosaic.ValueIdx
open scoped BigOperators

/-- The misc block as a matrix. -/
theorem pay23_apply (v10 : Vec Ideal S1x128x16 .f32) (k : Fin 128) (n : Fin 16) :
    k0_pay23 v10 (ix2 k n) = v10 (ix3 0 k n) := by
  unfold k0_pay23
  exact shapeCast_apply _ shapeCasts_S1x128x16_S128x16 (ix2 k n) (ix3 0 k n) (by
    rw [Shape.rowMajor_val_three, Shape.rowMajor_val_two]; show (0 * 128 + k.val) * 16 + n.val = k.val * 16 + n.val; omega)

/-- A map's block as a matrix. -/
theorem map_apply (v : Vec Ideal S1x1x128x128 .f32) (r c : Fin 128) :
    shapeCast S128x128 v shapeCasts_S1x1x128x128_S128x128 (ix2 r c) = v (ix4 0 0 r c) :=
  shapeCast_apply _ shapeCasts_S1x1x128x128_S128x128 (ix2 r c) (ix4 0 0 r c) (by
    rw [Shape.rowMajor_val_four, Shape.rowMajor_val_two]
    show ((0 * 1 + 0) * 128 + r.val) * 128 + c.val = r.val * 128 + c.val; omega)

/-- A column of the coordinates. -/
theorem slice4_apply (v : FVec Ideal S128x4 .f32) (k : Fin 128) (n : Fin 4) (off : Fin 2 → ℕ) (ho : off = ![0, n.val])
    (h : S128x4.Slices off S128x1) : extractStridedSlice S128x1 off v h (ix2 k 0) = v (ix2 k n) := by
  subst ho
  exact extractStridedSlice_apply _ v h (ix2 k 0) (ix2 k n) (fun a => match a with
    | ⟨0, _⟩ => (Nat.zero_add _).symm
    | ⟨1, _⟩ => rfl)

/-- What row `k` of a coordinate holds: the coordinate of the cell of rank `k` for the first hundred rows, then nothing. -/
def coord (val : ℕ → ℕ) (k : ℕ) : EReal := if k < 100 then num (val k) else 0

/-- A filled row read at a lane. -/
theorem filled_apply (val : ℕ → ℕ) (k : Fin 128) : filled 100 val (ix2 0 k) = coord val k.val := rfl

variable (v0 v2 v4 v6 v8 : Vec Ideal S1x1x128x128 .f32) (v10 : Vec Ideal S1x128x16 .f32)

/-- The box of row `k` drawn from the predictions. -/
def pBox (k r c : Fin 128) : Fin 5 → EReal :=
  box (coord (fun k => nth (score v6) k / 128) k.val) (coord (fun k => nth (score v6) k % 128) k.val)
    (v0 (ix4 0 0 r c)) (v2 (ix4 0 0 r c)) (v4 (ix4 0 0 r c)) (v10 (ix3 0 k 3))

/-- The box of row `k` drawn from the targets. -/
def tBox (k : Fin 128) : Fin 5 → EReal :=
  box (coord (fun k => nth (score v8) k / 128) k.val) (coord (fun k => nth (score v8) k % 128) k.val)
    (v10 (ix3 0 k 0)) (v10 (ix3 0 k 1)) (v10 (ix3 0 k 2)) (v10 (ix3 0 k 3))

/-- An elementwise step of the loss, read at one box. -/
theorem pay43_at (a b c d : FVec Ideal S128x1 .f32) (i : S128x1.Idx) :
    k0_pay43 a b c d i = (a i - c i) * (a i - c i) + (b i - d i) * (b i - d i) := rfl
/-- An elementwise step of the loss, read at one box. -/
theorem pay46_at (a : FVec Ideal S128x1 .f32) (i : S128x1.Idx) : k0_pay46 a i = Ideal.cos (a i * kDeg) := rfl
/-- An elementwise step of the loss, read at one box. -/
theorem pay47_at (a : FVec Ideal S128x1 .f32) (i : S128x1.Idx) : k0_pay47 a i = Ideal.sin (a i * kDeg) := rfl
/-- An elementwise step of the loss, read at one box. -/
theorem pay48_at (a b : FVec Ideal S128x1 .f32) (i : S128x1.Idx) :
    k0_pay48 a b i = Ideal.cos (((a i - kNinety) * b i) * kDeg) := rfl
/-- An elementwise step of the loss, read at one box. -/
theorem pay49_at (a b : FVec Ideal S128x1 .f32) (i : S128x1.Idx) :
    k0_pay49 a b i = Ideal.sin (((a i - kNinety) * b i) * kDeg) := rfl
/-- An elementwise step of the loss, read at one box. -/
theorem pay50_at (a : FVec Ideal S128x1 .f32) (i : S128x1.Idx) : k0_pay50 a i = halfSide (a i) := rfl
/-- An elementwise step of the loss, read at one box. -/
theorem pay51_at (a : FVec Ideal S128x1 .f32) (i : S128x1.Idx) : k0_pay51 a i = halfSide (a i) := rfl
/-- An elementwise step of the loss, read at one box. -/
theorem pay52_at (a : FVec Ideal S128x1 .f32) (i : S128x1.Idx) : k0_pay52 a i = halfSide (a i) := rfl
/-- An elementwise step of the loss, read at one box. -/
theorem pay53_at (a b : FVec Ideal S128x1 .f32) (t : EReal) (i : S128x1.Idx) :
    k0_pay53 (F := Ideal) a b t i = halfSide ((a i * t) * b i) := rfl
/-- An elementwise step of the loss, read at one box. -/
theorem pay54_at (a : FVec Ideal S128x1 .f32) (i : S128x1.Idx) : k0_pay54 a i = halfSide (a i) * halfSide (a i) := rfl
/-- An elementwise step of the loss, read at one box. -/
theorem pay55_at (a : FVec Ideal S128x1 .f32) (i : S128x1.Idx) : k0_pay55 a i = halfSide (a i) * halfSide (a i) := rfl
/-- An elementwise step of the loss, read at one box. -/
theorem pay56_at (d c s c' s' u v u' v' uu vv : FVec Ideal S128x1 .f32) (i : S128x1.Idx) :
    k0_pay56 d c s c' s' u v u' v' uu vv i
      = kCore (d i) (c i) (s i) (c' i) (s' i) (u i) (v i) (u' i) (v' i) (uu i) (vv i) := by
  unfold k0_pay56 kCore
  rfl

/-- The column's row before its five and five coordinates are read. -/
theorem lossCol_parts (k : Fin 128) (v1 v3 v5 : FVec Ideal S128x128 .f32) (v11 : FVec Ideal S128x16 .f32) (c : St Ideal)
    (e1 : k0_pay18 v0 = v1) (e3 : k0_pay19 v2 = v3) (e5 : k0_pay20 v4 = v5) (e11 : k0_pay23 v10 = v11) (ec : cols v6 v8 = c)
    (p t : Fin 5 → EReal)
    (p0 : k0_pay35 v11 (k0_pay28 c.2.2.1 c.2.2.2.1 c.2.2.2.2.1 c.2.2.2.2.2) (ix2 k 0) = p 0)
    (p1 : k0_pay36 v11 (k0_pay27 c.2.2.1 c.2.2.2.1 c.2.2.2.2.1 c.2.2.2.2.2) (ix2 k 0) = p 1)
    (p2 : k0_pay37 v1 v3 v5 v11 (ix2 k 0) = p 2) (p3 : k0_pay38 v1 v3 v5 v11 (ix2 k 0) = p 3)
    (p4 : k0_pay39 v1 v3 v5 v11 (ix2 k 0) = p 4)
    (t0 : k0_pay40 v11 (k0_pay27 c.2.2.1 c.2.2.2.1 c.2.2.2.2.1 c.2.2.2.2.2) (ix2 k 0) = t 0)
    (t1 : k0_pay41 v11 (k0_pay27 c.2.2.1 c.2.2.2.1 c.2.2.2.2.1 c.2.2.2.2.2) (ix2 k 0) = t 1)
    (t2 : k0_pay42 v11 (ix2 k 0) = t 2) (t3 : (k0_pay29 v11 (ix2 k 0) * kTwo) * k0_pay31 v11 (ix2 k 0) = t 3)
    (t4 : (k0_pay30 v11 (ix2 k 0) - kNinety) * k0_pay31 v11 (ix2 k 0) = t 4) :
    lossCol (F := Ideal) v0 v2 v4 v6 v8 v10 (ix2 k 0) = kLoss p t := by
  unfold lossCol kLoss
  rw [e1, e3, e5, e11, ec, pay56_at, pay43_at, pay46_at, pay47_at, pay48_at, pay49_at, pay50_at, pay51_at, pay52_at,
    pay53_at, pay54_at, pay55_at, p0, p1, p2, p3, p4, t0, t1, t2, t4]
  rw [← t3]
  rfl

/-- Row `k` of the loss column is the loss of its two boxes. -/
theorem lossCol_apply (h6 : ∀ p, negOne < score v6 p) (h8 : ∀ p, negOne < score v8 p) (k r c : Fin 128)
    (hr : v10 (ix3 0 k 4) = num r.val) (hc : v10 (ix3 0 k 5) = num c.val) :
    lossCol (F := Ideal) v0 v2 v4 v6 v8 v10 (ix2 k 0) = kLoss (pBox v0 v2 v4 v6 v10 k r c) (tBox v8 v10 k) := by
  have hr' : k0_pay23 v10 (ix2 k 4) = num r.val := (pay23_apply v10 k 4).trans hr
  have hc' : k0_pay23 v10 (ix2 k 5) = num c.val := (pay23_apply v10 k 5).trans hc
  have e27 := pay27_apply (filled 100 fun k => nth (score v6) k / 128) (filled 100 fun k => nth (score v6) k % 128)
    (filled 100 fun k => nth (score v8) k / 128) (filled 100 fun k => nth (score v8) k % 128) k
  simp only [filled_apply] at e27
  have e31 : k0_pay31 (k0_pay23 v10) (ix2 k 0) = v10 (ix3 0 k 3) := by
    unfold k0_pay31; rw [slice_apply _ k 3 ![0, 3] rfl, pay23_apply]
  have e30 : k0_pay30 (k0_pay23 v10) (ix2 k 0) = v10 (ix3 0 k 2) := by
    unfold k0_pay30; rw [slice_apply _ k 2 ![0, 2] rfl, pay23_apply]
  have e29 : k0_pay29 (k0_pay23 v10) (ix2 k 0) = v10 (ix3 0 k 1) := by
    unfold k0_pay29; rw [slice_apply _ k 1 ![0, 1] rfl, pay23_apply]
  have e42 : k0_pay42 (k0_pay23 v10) (ix2 k 0) = (v10 (ix3 0 k 0) * kTwo) * v10 (ix3 0 k 3) := by
    unfold k0_pay42
    show (extractStridedSlice S128x1 ![0, 0] (k0_pay23 v10) slices_S128x16_o0_0_S128x1 (ix2 k 0) * kTwo)
      * k0_pay31 (k0_pay23 v10) (ix2 k 0) = _
    rw [e31, slice_apply _ k 0 ![0, 0] rfl, pay23_apply]
  have e35 : ∀ v, k0_pay35 (F := Ideal) (k0_pay23 v10) v (ix2 k 0) = v (ix2 k 0) * v10 (ix3 0 k 3) := fun v => by
    unfold k0_pay35
    show v (ix2 k 0) * k0_pay31 (k0_pay23 v10) (ix2 k 0) = _
    rw [e31]
  have e28 : ∀ a b c d, k0_pay28 (F := Ideal) a b c d (ix2 k 0) = k0_pay27 a b c d (ix2 k 0) := fun a b c d => by
    unfold k0_pay28; rw [slice4_apply _ k 0 ![0, 0] rfl]
  have e36 : ∀ v, k0_pay36 (F := Ideal) (k0_pay23 v10) v (ix2 k 0) = v (ix2 k 1) * v10 (ix3 0 k 3) := fun v => by
    unfold k0_pay36
    show extractStridedSlice S128x1 ![0, 1] v slices_S128x4_o0_1_S128x1 (ix2 k 0) * k0_pay31 (k0_pay23 v10) (ix2 k 0) = _
    rw [e31, slice4_apply _ k 1 ![0, 1] rfl]
  have e40 : ∀ v, k0_pay40 (F := Ideal) (k0_pay23 v10) v (ix2 k 0) = v (ix2 k 2) * v10 (ix3 0 k 3) := fun v => by
    unfold k0_pay40
    show extractStridedSlice S128x1 ![0, 2] v slices_S128x4_o0_2_S128x1 (ix2 k 0) * k0_pay31 (k0_pay23 v10) (ix2 k 0) = _
    rw [e31, slice4_apply _ k 2 ![0, 2] rfl]
  have e41 : ∀ v, k0_pay41 (F := Ideal) (k0_pay23 v10) v (ix2 k 0) = v (ix2 k 3) * v10 (ix3 0 k 3) := fun v => by
    unfold k0_pay41
    show extractStridedSlice S128x1 ![0, 3] v slices_S128x4_o0_3_S128x1 (ix2 k 0) * k0_pay31 (k0_pay23 v10) (ix2 k 0) = _
    rw [e31, slice4_apply _ k 3 ![0, 3] rfl]
  have e18 : k0_pay18 v0 (ix2 r c) = v0 (ix4 0 0 r c) := map_apply v0 r c
  have e19 : k0_pay19 v2 (ix2 r c) = v2 (ix4 0 0 r c) := map_apply v2 r c
  have e20 : k0_pay20 v4 (ix2 r c) = v4 (ix4 0 0 r c) := map_apply v4 r c
  refine lossCol_parts v0 v2 v4 v6 v8 v10 k _ _ _ _ _ rfl rfl rfl rfl (cols_eq v6 v8 h6 h8) _ _
    (((e35 _).trans (congrArg (· * v10 (ix3 0 k 3)) ((e28 _ _ _ _).trans e27.1))).trans ?_)
    (((e36 _).trans (congrArg (· * v10 (ix3 0 k 3)) e27.2.1)).trans ?_)
    ((pay37_apply _ _ _ _ k r c hr' hc').trans ?_) ((pay38_apply _ _ _ _ k r c hr' hc').trans ?_)
    ((pay39_apply _ _ _ _ k r c hr' hc').trans ?_)
    (((e40 _).trans (congrArg (· * v10 (ix3 0 k 3)) e27.2.2.1)).trans ?_)
    (((e41 _).trans (congrArg (· * v10 (ix3 0 k 3)) e27.2.2.2)).trans ?_)
    (e42.trans ?_) ?_ ?_
  · rfl
  · rfl
  · rw [e18, pay23_apply]; rfl
  · rw [e19, pay23_apply]; rfl
  · rw [e20, pay23_apply]; rfl
  · rfl
  · rfl
  · rfl
  · rw [e29, e31]; rfl
  · rw [e30, e31]; rfl

/-! ## What a step adds -/

/-- A column summed to one number. -/
theorem total_apply (x : FVec Ideal S128x1 .f32) :
    extractAt ![0, 0, 0] (shapeCast S1x1x1 (multiReduction (F := Ideal) .add [1, 2] S1
      (shapeCast S1x128x1 x shapeCasts_S128x1_S1x128x1) 0x00000000#32 reduces_S1x128x1_S1 (.inl rfl) rfl)
      shapeCasts_S1_S1x1x1) inpos_S1x1x1_p0_0_0 = ∑ k : Fin 128, x (ix2 k 0) := by
  show multiReduction (F := Ideal) .add [1, 2] S1 (shapeCast S1x128x1 x shapeCasts_S128x1_S1x128x1) 0x00000000#32
      reduces_S1x128x1_S1 (.inl rfl) rfl (Shape.reshapeEquiv shapeCasts_S1_S1x1x1 _) = _
  refine (Ideal.multiReduction_add_total _ _ reduces_S1x128x1_S1 (fun b => by fin_cases b; rfl) (.inl rfl) rfl _).trans ?_
  refine (Equiv.sum_comp (Shape.reshapeEquiv shapeCasts_S128x1_S1x128x1) x).trans ?_
  rw [sum_idx2]
  exact Finset.sum_congr rfl fun k _ => Fin.sum_univ_one _

variable (prev : Vec Ideal S1x128 .f32)

/-- Lane 0 gains the sum of the last steps of the rows. -/
theorem stepVal_zero : stepVal v0 v2 v4 v6 v8 v10 prev (ix2 0 0)
    = prev (ix2 0 0) + ∑ k : Fin 128, lastStep (lossCol v0 v2 v4 v6 v8 v10 (ix2 k 0)) := by
  unfold stepVal k0_pay2
  have e := total_apply (fun j => lastStep (lossCol v0 v2 v4 v6 v8 v10 j))
  rw [← e]
  show shapeCast S1x128 prev shapeCasts_S1x128_S1x128 (ix2 0 0) + (_ + (kZero : EReal)) = _
  rw [kZero_eq, EReal.coe_zero, add_zero, shapeCast_apply prev shapeCasts_S1x128_S1x128 (ix2 0 0) (ix2 0 0) rfl]
  rfl

/-- Lane 1 gains the sum of the mask. -/
theorem stepVal_one : stepVal v0 v2 v4 v6 v8 v10 prev (ix2 0 1)
    = prev (ix2 0 1) + ∑ k : Fin 128, v10 (ix3 0 k 3) := by
  unfold stepVal k0_pay2
  have e := total_apply (k0_pay31 (k0_pay23 v10))
  have e' : ∑ k : Fin 128, v10 (ix3 0 k 3) = ∑ k : Fin 128, k0_pay31 (k0_pay23 v10) (ix2 k 0) :=
    Finset.sum_congr rfl fun k _ => by
      unfold k0_pay31; rw [slice_apply _ k 3 ![0, 3] rfl, pay23_apply]
  rw [e', ← e]
  show shapeCast S1x128 prev shapeCasts_S1x128_S1x128 (ix2 0 1) + ((kZero : EReal) + _) = _
  rw [kZero_eq, EReal.coe_zero, zero_add, shapeCast_apply prev shapeCasts_S1x128_S1x128 (ix2 0 1) (ix2 0 1) rfl]
  rfl

end Cert.Proof.KI

end
-- ==== Proof.Common.lean ====
module

public import proofs.«01_k».proof.Proof.KBox

@[expose] public section

set_option maxRecDepth 65536

noncomputable section

/-! # The value both programs compute, as a function of the eight arguments -/

namespace Cert.Proof

open Idealize.ShloMosaic Idealize.ShloMosaic.ValueIdx
open scoped BigOperators

/-- The eight arguments of either program. -/
structure Input where
  ab : (⟨4, ![32, 2, 128, 128]⟩ : Shape).Idx → EReal
  ang : (⟨4, ![32, 1, 128, 128]⟩ : Shape).Idx → EReal
  hm : (⟨4, ![32, 1, 128, 128]⟩ : Shape).Idx → EReal
  tab : (⟨3, ![32, 100, 2]⟩ : Shape).Idx → EReal
  tang : (⟨3, ![32, 100, 1]⟩ : Shape).Idx → EReal
  thm : (⟨4, ![32, 1, 128, 128]⟩ : Shape).Idx → EReal
  ind : (⟨2, ![32, 100]⟩ : Shape).Idx → BitVec 32
  mask : (⟨2, ![32, 100]⟩ : Shape).Idx → BitVec 32

/-- One batch's heat map by flat position. -/
def heat (x : (⟨4, ![32, 1, 128, 128]⟩ : Shape).Idx → EReal) (b : Fin 32) (p : Fin 16384) : EReal :=
  x (ix4 b 0 ⟨p.val / 128, by omega⟩ ⟨p.val % 128, by omega⟩)

namespace Input

variable (A : Input) (b : Fin 32) (k : Fin 100)

/-- The row a box is gathered from. -/
def row : Fin 128 := ⟨(A.ind (ix2 b k)).toNat / 128 % 128, Nat.mod_lt _ (by decide)⟩

/-- The column a box is gathered from. -/
def col : Fin 128 := ⟨(A.ind (ix2 b k)).toNat % 128, Nat.mod_lt _ (by decide)⟩

/-- The mask as a number. -/
def weight : EReal := (((A.mask (ix2 b k)).toInt : ℝ) : EReal)

/-- The predicted box. -/
def pred : Fin 5 → EReal :=
  box (KI.num (nth (heat A.hm b) k / 128)) (KI.num (nth (heat A.hm b) k % 128)) (A.ab (ix4 b 0 (A.row b k) (A.col b k)))
    (A.ab (ix4 b 1 (A.row b k) (A.col b k))) (A.ang (ix4 b 0 (A.row b k) (A.col b k))) (A.weight b k)

/-- The target box. -/
def target : Fin 5 → EReal :=
  box (KI.num (nth (heat A.thm b) k / 128)) (KI.num (nth (heat A.thm b) k % 128)) (A.tab (ix3 b k 0)) (A.tab (ix3 b k 1))
    (A.tang (ix3 b k 0)) (A.weight b k)

/-- The loss summed over all boxes, over the summed mask and a small constant. -/
def meanLoss : EReal :=
  Ideal.div (∑ b : Fin 32, ∑ k : Fin 100, lastStep (kLoss (A.pred b k) (A.target b k)))
    ((∑ b : Fin 32, ∑ k : Fin 100, A.weight b k) + Ideal.ofBits .f32 0x322BCC77#32)

/-- What the precondition grants. -/
structure Tame : Prop where
  ind : ∀ i, ∃ p < 16384, A.ind i = BitVec.ofNat 32 p
  hm : ∀ i, Ideal.ofBits .f32 0xBF800000#32 < A.hm i
  thm : ∀ i, Ideal.ofBits .f32 0xBF800000#32 < A.thm i
  ang : ∀ i, ∃ r : ℝ, A.ang i = r
  tang : ∀ i, ∃ r : ℝ, A.tang i = r

end Input

end Cert.Proof

end
-- ==== Proof.KMisc.lean ====
module

public import proofs.«01_k».proof.Proof.Common
public import proofs.«01_k».proof.Proof.FrameKI

@[expose] public section

set_option maxRecDepth 65536

noncomputable section

/-! # The misc block the host prepares -/

namespace Cert.Proof.KI

open Cert.KernelIdeal Cert.KernelIdeal.Gen
open Idealize.ShloMosaic Idealize.ShloMosaic.TcCoe Idealize.ShloMosaic.ValueIdx
open scoped BigOperators

/-- The scalar 128 along every flat position. -/
def all128 : IVec S32x100 32 := broadcastInDim S32x100 ![] bcast_S_S32x100 (constantI S_ 32 128#32)

/-- The row the host computes from a flat position: the quotient by 128, rounded down. -/
def rowOf (x : IVec S32x100 32) : IVec S32x100 32 :=
  select (andi (cmpi .ne (signi x) (broadcastInDim S32x100 ![] bcast_S_S32x100 (signi (constantI S_ 32 128#32))))
      (cmpi .ne (Host.remsi x all128) (broadcastInDim S32x100 ![] bcast_S_S32x100 (constantI S_ 32 0#32))))
    (subi (Host.divsi x all128) (broadcastInDim S32x100 ![] bcast_S_S32x100 (constantI S_ 32 1#32)))
    (Host.divsi x all128)

/-- The divisor the host takes a remainder by: one in place of nothing. -/
def divisor : IVec S_ 32 := select (cmpi .eq (constantI S_ 32 128#32) (constantI S_ 32 0#32)) (constantI S_ 32 1#32) (constantI S_ 32 128#32)

/-- The remainder of a flat position before its sign is put right. -/
def remOf (x : IVec S32x100 32) : IVec S32x100 32 := Host.remsi x (broadcastInDim S32x100 ![] bcast_S_S32x100 divisor)

/-- The column the host computes from a flat position: the remainder by 128, of the divisor's sign. -/
def colOf (x : IVec S32x100 32) : IVec S32x100 32 :=
  select (andi (cmpi .ne (cmpi .slt (remOf x) (broadcastInDim S32x100 ![] bcast_S_S32x100 (constantI S_ 32 0#32)))
        (broadcastInDim S32x100 ![] bcast_S_S32x100 (cmpi .slt divisor (constantI S_ 32 0#32))))
      (cmpi .ne (remOf x) (broadcastInDim S32x100 ![] bcast_S_S32x100 (constantI S_ 32 0#32))))
    (addi (remOf x) (broadcastInDim S32x100 ![] bcast_S_S32x100 divisor)) (remOf x)

/-- A column of the block before padding. -/
def up (x : FVec Ideal S32x100 .f32) : FVec Ideal S32x100x1 .f32 := broadcastInDim S32x100x1 ![0, 1] bcast_S32x100_S32x100x1_0_1 x

/-- The six columns of the block before padding. -/
abbrev six (a3 : FVec Ideal S32x100x2 .f32) (a4 : FVec Ideal S32x100x1 .f32) (a6 a7 : IVec S32x100 32) :
    List ((s : Shape) × (s.Idx → EReal)) :=
  [⟨S32x100x1, up (shapeCast S32x100 (extractStridedSlice S32x100x1 ![0, 0, 0] a3 slices_S32x100x2_S32x100x1_0_0_0) shapeCasts_S32x100x1_S32x100)⟩,
    ⟨S32x100x1, up (shapeCast S32x100 (extractStridedSlice S32x100x1 ![0, 0, 1] a3 slices_S32x100x2_S32x100x1_0_0_1) shapeCasts_S32x100x1_S32x100)⟩,
    ⟨S32x100x1, up (shapeCast S32x100 a4 shapeCasts_S32x100x1_S32x100)⟩,
    ⟨S32x100x1, up (sitofp .f32 a7)⟩, ⟨S32x100x1, up (sitofp .f32 (rowOf a6))⟩, ⟨S32x100x1, up (sitofp .f32 (colOf a6))⟩]

variable (m : (ℓ : Loc nD τ sig) → Buf (Elt Ideal) ℓ)

set_option maxHeartbeats 4000000 in
/-- The misc block is the six columns padded to 128 rows and 16 columns. -/
theorem V_misc (c : Dev nD) : V m c main_v17
    = pad S32x128x16 ![0, 0, 0] ![0, 28, 10] ![0, 0, 0]
        (concatenate S32x100x6 2 (six (V m c main_arg3) (V m c main_arg4) (V m c main_arg6) (V m c main_arg7))
          concatenates_S32x100x1_S32x100x1_S32x100x1_S32x100x1_S32x100x1_S32x100x1_S32x100x6_d2)
        (sitofp (F := Ideal) .f32 (constantI S_ 32 0#32)) pads_S32x100x6_S32x128x16_000_0280_0100 h_S_ := by
  rw [V_main_arg3, V_main_arg4, V_main_arg6, V_main_arg7]
  unfold V V0
  simp only [hostOps0, hostOps0_1, hostOps0_2, hostOps0_3, hostOps0_4, hostOps0_5, List.flatten_cons, List.flatten_nil, List.append_nil, List.cons_append, List.nil_append,
    StableHlo.TRef.binary, StableHlo.TRef.nullary, StableHlo.TRef.reshape, StableHlo.TRef.ternary, StableHlo.TRef.unary, StableHlo.TRef.toBuf, StableHlo.TRef.ofBuf, cast_eq]
  after_results_simp
  dsimp only [Matrix.cons_val]
  rfl

end Cert.Proof.KI

end
-- ==== Proof.KEntry.lean ====
module

public import proofs.«01_k».proof.Proof.KMisc
public import Idealize.ShloMosaic.Lib.Routing.Words
public import Idealize.ShloMosaic.Lib.KernelVsHost

@[expose] public section

set_option maxRecDepth 65536

noncomputable section

/-! # The entries of the misc block -/

namespace Cert.Proof

open Idealize.ShloMosaic

/-- A word whose signed reading lies in `[0, n)` is the word of a natural below `n`. -/
theorem word_of_range {n : ℕ} (x : BitVec 32) (h0 : 0 ≤ x.toInt) (h1 : x.toInt < n) : ∃ p < n, x = BitVec.ofNat 32 p :=
  ⟨x.toInt.toNat, by omega, by
    have hx : x.toInt = (x.toNat : ℤ) := by
      rw [BitVec.toInt_eq_toNat_cond] at h0 ⊢
      split at h0 <;> omega
    rw [hx, Int.toNat_natCast, BitVec.ofNat_toNat, BitVec.setWidth_eq]⟩

end Cert.Proof

namespace Cert.Proof.KI

open Cert.KernelIdeal Cert.KernelIdeal.Gen
open Idealize.ShloMosaic Idealize.ShloMosaic.TcCoe Idealize.ShloMosaic.ValueIdx
open scoped BigOperators

/-- The row of a flat position below 16384. -/
theorem rowOf_apply (x : IVec S32x100 32) (i : S32x100.Idx) (p : ℕ) (hp : p < 16384) (hx : x i = BitVec.ofNat 32 p) :
    rowOf x i = BitVec.ofNat 32 (p / 128) :=
  Routing.pyDiv_ap bcast_S_S32x100 x (constantI S_ 32 128#32) i hx rfl (by omega) (by omega) (by omega)

/-- The column of a flat position below 16384. -/
theorem colOf_apply (x : IVec S32x100 32) (i : S32x100.Idx) (p : ℕ) (hp : p < 16384) (hx : x i = BitVec.ofNat 32 p) :
    colOf x i = BitVec.ofNat 32 (p % 128) :=
  Routing.pyRem_ap bcast_S_S32x100 x (constantI S_ 32 128#32) i hx rfl (by omega) (by omega) (by omega)

/-- A column of the block reads what it was made from. -/
theorem up_apply (x : FVec Ideal S32x100 .f32) (b : Fin 32) (k : Fin 100) : up x (ix3 b k 0) = x (ix2 b k) :=
  broadcastInDim_apply _ _ x (ix3 b k 0) (ix2 b k) (fun a => match a with | ⟨0, _⟩ => rfl | ⟨1, _⟩ => rfl)

/-- Reading a matrix kept in three axes. -/
theorem flat_apply (x : FVec Ideal S32x100x1 .f32) (b : Fin 32) (k : Fin 100) :
    shapeCast S32x100 x shapeCasts_S32x100x1_S32x100 (ix2 b k) = x (ix3 b k 0) :=
  shapeCast_apply x _ (ix2 b k) (ix3 b k 0) (by
    rw [Shape.rowMajor_val_two, Shape.rowMajor_val_three]
    show (b.val * 100 + k.val) * 1 + 0 = b.val * 100 + k.val
    omega)

section Columns

variable (a3 : FVec Ideal S32x100x2 .f32) (a4 : FVec Ideal S32x100x1 .f32) (a6 a7 : IVec S32x100 32) (b : Fin 32) (k : Fin 100)

/-- The six columns side by side. -/
abbrev sixCat : FVec Ideal S32x100x6 .f32 := concatenate S32x100x6 2 (six a3 a4 a6 a7)
  concatenates_S32x100x1_S32x100x1_S32x100x1_S32x100x1_S32x100x1_S32x100x1_S32x100x6_d2

/-- Column `n` of the block is its piece `n`. -/
theorem sixCat_piece (n : ℕ) (hn : n < 6) (x : FVec Ideal S32x100 .f32) (hx : (six a3 a4 a6 a7)[n]'hn = ⟨S32x100x1, up x⟩)
    (hpre : ((((six a3 a4 a6 a7).take n).map (·.1)).map fun s => if h : s.rank = S32x100x6.rank then s.size ((2 : Fin 3).cast h.symm) else 0).sum = n) :
    sixCat a3 a4 a6 a7 (ix3 b k ⟨n, hn⟩) = x (ix2 b k) :=
  (concatenate_apply_piece (t := S32x100x6) 2 (six a3 a4 a6 a7)
      concatenates_S32x100x1_S32x100x1_S32x100x1_S32x100x1_S32x100x1_S32x100x1_S32x100x6_d2 _ n hn
      S32x100x1 (up x) hx rfl n hpre (ix3 b k 0) (fun a ha => by
        match a with
        | ⟨0, _⟩ => rfl
        | ⟨1, _⟩ => rfl
        | ⟨2, _⟩ => exact absurd rfl ha) rfl).trans (up_apply x b k)

/-- Column 0: the first target side. -/
theorem six_0 : sixCat a3 a4 a6 a7 (ix3 b k 0) = a3 (ix3 b k 0) :=
  (sixCat_piece a3 a4 a6 a7 b k 0 (by decide) _ rfl rfl).trans ((flat_apply _ b k).trans
    (extractStridedSlice_apply _ _ _ _ (ix3 b k 0) (fun a => match a with
      | ⟨0, _⟩ => (Nat.zero_add _).symm | ⟨1, _⟩ => (Nat.zero_add _).symm | ⟨2, _⟩ => rfl)))

/-- Column 1: the second target side. -/
theorem six_1 : sixCat a3 a4 a6 a7 (ix3 b k 1) = a3 (ix3 b k 1) :=
  (sixCat_piece a3 a4 a6 a7 b k 1 (by decide) _ rfl rfl).trans ((flat_apply _ b k).trans
    (extractStridedSlice_apply _ _ _ _ (ix3 b k 1) (fun a => match a with
      | ⟨0, _⟩ => (Nat.zero_add _).symm | ⟨1, _⟩ => (Nat.zero_add _).symm | ⟨2, _⟩ => rfl)))

/-- Column 2: the target angle. -/
theorem six_2 : sixCat a3 a4 a6 a7 (ix3 b k 2) = a4 (ix3 b k 0) :=
  (sixCat_piece a3 a4 a6 a7 b k 2 (by decide) _ rfl rfl).trans (flat_apply _ b k)

/-- Column 3: the mask. -/
theorem six_3 : sixCat a3 a4 a6 a7 (ix3 b k 3) = (((a7 (ix2 b k)).toInt : ℝ) : EReal) :=
  sixCat_piece a3 a4 a6 a7 b k 3 (by decide) _ rfl rfl

/-- Column 4: the row gathered from. -/
theorem six_4 (p : ℕ) (hp : p < 16384) (hx : a6 (ix2 b k) = BitVec.ofNat 32 p) : sixCat a3 a4 a6 a7 (ix3 b k 4) = num (p / 128) := by
  refine (sixCat_piece a3 a4 a6 a7 b k 4 (by decide) _ rfl rfl).trans ?_
  show (((rowOf a6 (ix2 b k)).toInt : ℝ) : EReal) = _
  rw [rowOf_apply a6 _ p hp hx, toInt_ofNat_small (by omega), Int.cast_natCast]
  rfl

/-- Column 5: the column gathered from. -/
theorem six_5 (p : ℕ) (hp : p < 16384) (hx : a6 (ix2 b k) = BitVec.ofNat 32 p) : sixCat a3 a4 a6 a7 (ix3 b k 5) = num (p % 128) := by
  refine (sixCat_piece a3 a4 a6 a7 b k 5 (by decide) _ rfl rfl).trans ?_
  show (((colOf a6 (ix2 b k)).toInt : ℝ) : EReal) = _
  rw [colOf_apply a6 _ p hp hx, toInt_ofNat_small (by omega), Int.cast_natCast]
  rfl

end Columns

variable (m : (ℓ : Loc nD τ sig) → Buf (Elt Ideal) ℓ)

/-- Inside the first 100 rows and 6 columns the block holds the columns. -/
theorem misc_inside (c : Dev nD) (b : Fin 32) (k : Fin 128) (hk : k.val < 100) (n : Fin 6) :
    (V m c main_v17 : FVec Ideal S32x128x16 .f32) (ix3 b k ⟨n.val, by omega⟩)
      = sixCat (V m c main_arg3) (V m c main_arg4) (V m c main_arg6) (V m c main_arg7) (ix3 b ⟨k.val, hk⟩ n) := by
  rw [V_misc]
  exact pad_apply_of_inside _ _ _ _ _ _ _ _ (ix3 b ⟨k.val, hk⟩ n) (fun a => match a with
    | ⟨0, _⟩ => by show b.val = 0 + b.val * 1; omega
    | ⟨1, _⟩ => by show k.val = 0 + k.val * 1; omega
    | ⟨2, _⟩ => by show n.val = 0 + n.val * 1; omega)

/-- Below the first 100 rows the block is zero. -/
theorem misc_outside (c : Dev nD) (b : Fin 32) (k : Fin 128) (hk : ¬ k.val < 100) (n : Fin 16) :
    (V m c main_v17 : FVec Ideal S32x128x16 .f32) (ix3 b k n) = (0 : EReal) := by
  rw [V_misc]
  refine (pad_apply_of_not_inside _ _ _ _ _ _ _ _ (1 : Fin 3) ?_).trans ?_
  · show ¬(0 ≤ k.val ∧ (k.val - 0) % 1 = 0 ∧ (k.val - 0) / 1 < 100)
    omega
  · show (((0#32 : BitVec 32).toInt : ℝ) : EReal) = 0
    simp

end Cert.Proof.KI

end
-- ==== Proof.KGrid.lean ====
module

public import proofs.«01_k».proof.Proof.KEntry

@[expose] public section

set_option maxRecDepth 65536

noncomputable section

/-! # The grid: what each point reads and what the output row ends with -/

namespace Cert.Proof.KI

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- The eight arguments the kernel is launched with. -/
def input : Input where
  ab := m ((c.tc : Thread nD τ).loc main_arg0)
  ang := m ((c.tc : Thread nD τ).loc main_arg1)
  hm := m ((c.tc : Thread nD τ).loc main_arg2)
  tab := m ((c.tc : Thread nD τ).loc main_arg3)
  tang := m ((c.tc : Thread nD τ).loc main_arg4)
  thm := m ((c.tc : Thread nD τ).loc main_arg5)
  ind := m ((c.tc : Thread nD τ).loc main_arg6)
  mask := m ((c.tc : Thread nD τ).loc main_arg7)

/-- The batch of a grid point. -/
def batch (t : Fin cfg0.N) : Fin 32 := ⟨t.val, lt_of_lt_of_eq t.isLt N_0⟩

/-- Point `t` reads block `t` of window 0. -/
theorem index0 : ∀ t : Fin cfg0.N, win0_0.index t = ![t.val, 0, 0, 0] :=
  (by decide +kernel : ∀ t : Fin grid0.N, win0_0.index t = ![t.val, 0, 0, 0])
/-- Point `t` reads block `t` of window 1. -/
theorem index1 : ∀ t : Fin cfg0.N, win0_1.index t = ![t.val, 0, 0, 0] :=
  (by decide +kernel : ∀ t : Fin grid0.N, win0_1.index t = ![t.val, 0, 0, 0])
/-- Point `t` reads block `t` of window 2. -/
theorem index2 : ∀ t : Fin cfg0.N, win0_2.index t = ![t.val, 0, 0, 0] :=
  (by decide +kernel : ∀ t : Fin grid0.N, win0_2.index t = ![t.val, 0, 0, 0])
/-- Point `t` reads block `t` of window 3. -/
theorem index3 : ∀ t : Fin cfg0.N, win0_3.index t = ![t.val, 0, 0, 0] :=
  (by decide +kernel : ∀ t : Fin grid0.N, win0_3.index t = ![t.val, 0, 0, 0])
/-- Point `t` reads block `t` of window 4. -/
theorem index4 : ∀ t : Fin cfg0.N, win0_4.index t = ![t.val, 0, 0] :=
  (by decide +kernel : ∀ t : Fin grid0.N, win0_4.index t = ![t.val, 0, 0])

/-- The block of sides a point reads. -/
def blkAb (t : Fin cfg0.N) : Vec Ideal S1x2x128x128 .f32 := iblk m c 0 t
/-- The block of angles a point reads. -/
def blkAng (t : Fin cfg0.N) : Vec Ideal S1x1x128x128 .f32 := iblk m c 1 t
/-- The predicted heat map a point reads. -/
def blkHm (t : Fin cfg0.N) : Vec Ideal S1x1x128x128 .f32 := iblk m c 2 t
/-- The target heat map a point reads. -/
def blkThm (t : Fin cfg0.N) : Vec Ideal S1x1x128x128 .f32 := iblk m c 3 t
/-- The misc block a point reads. -/
def blkMisc (t : Fin cfg0.N) : Vec Ideal S1x128x16 .f32 := iblk m c 4 t

/-- A point reads its batch of the sides. -/
theorem read0 (t : Fin cfg0.N) (n : Fin 2) (i j : Fin 128) :
    blkAb m c t (ix4 0 n i j) = (input m c).ab (ix4 (batch t) n i j) := by
  unfold blkAb iblk
  rw [View.read_apply]
  refine Eq.trans (b := V m c main_arg0 _) rfl ((congrFun (V_main_arg0 m c) _).trans ?_)
  show m (c.tc.loc main_arg0) _ = m (c.tc.loc main_arg0) _
  congr 1
  funext a
  apply Fin.ext
  match a with
  | ⟨0, _⟩ => show win0_0.index t 0 * 1 + 1 * 0 = t.val; rw [index0]; simp
  | ⟨1, _⟩ => show win0_0.index t 1 * 2 + 1 * n.val = n.val; rw [index0]; simp
  | ⟨2, _⟩ => show win0_0.index t 2 * 128 + 1 * i.val = i.val; rw [index0]; simp
  | ⟨3, _⟩ => show win0_0.index t 3 * 128 + 1 * j.val = j.val; rw [index0]; simp

/-- A point reads its batch of the angles. -/
theorem read1 (t : Fin cfg0.N) (i j : Fin 128) :
    blkAng m c t (ix4 0 0 i j) = (input m c).ang (ix4 (batch t) 0 i j) := by
  unfold blkAng iblk
  rw [View.read_apply]
  refine Eq.trans (b := V m c main_arg1 _) rfl ((congrFun (V_main_arg1 m c) _).trans ?_)
  show m (c.tc.loc main_arg1) _ = m (c.tc.loc main_arg1) _
  congr 1
  funext a
  apply Fin.ext
  match a with
  | ⟨0, _⟩ => show win0_1.index t 0 * 1 + 1 * 0 = t.val; rw [index1]; simp
  | ⟨1, _⟩ => show win0_1.index t 1 * 1 + 1 * 0 = 0; rw [index1]; simp
  | ⟨2, _⟩ => show win0_1.index t 2 * 128 + 1 * i.val = i.val; rw [index1]; simp
  | ⟨3, _⟩ => show win0_1.index t 3 * 128 + 1 * j.val = j.val; rw [index1]; simp

/-- A point reads its batch of the predicted heat map. -/
theorem read2 (t : Fin cfg0.N) (i j : Fin 128) :
    blkHm m c t (ix4 0 0 i j) = (input m c).hm (ix4 (batch t) 0 i j) := by
  unfold blkHm iblk
  rw [View.read_apply]
  refine Eq.trans (b := V m c main_arg2 _) rfl ((congrFun (V_main_arg2 m c) _).trans ?_)
  show m (c.tc.loc main_arg2) _ = m (c.tc.loc main_arg2) _
  congr 1
  funext a
  apply Fin.ext
  match a with
  | ⟨0, _⟩ => show win0_2.index t 0 * 1 + 1 * 0 = t.val; rw [index2]; simp
  | ⟨1, _⟩ => show win0_2.index t 1 * 1 + 1 * 0 = 0; rw [index2]; simp
  | ⟨2, _⟩ => show win0_2.index t 2 * 128 + 1 * i.val = i.val; rw [index2]; simp
  | ⟨3, _⟩ => show win0_2.index t 3 * 128 + 1 * j.val = j.val; rw [index2]; simp

/-- A point reads its batch of the target heat map. -/
theorem read3 (t : Fin cfg0.N) (i j : Fin 128) :
    blkThm m c t (ix4 0 0 i j) = (input m c).thm (ix4 (batch t) 0 i j) := by
  unfold blkThm iblk
  rw [View.read_apply]
  refine Eq.trans (b := V m c main_arg5 _) rfl ((congrFun (V_main_arg5 m c) _).trans ?_)
  show m (c.tc.loc main_arg5) _ = m (c.tc.loc main_arg5) _
  congr 1
  funext a
  apply Fin.ext
  match a with
  | ⟨0, _⟩ => show win0_3.index t 0 * 1 + 1 * 0 = t.val; rw [index3]; simp
  | ⟨1, _⟩ => show win0_3.index t 1 * 1 + 1 * 0 = 0; rw [index3]; simp
  | ⟨2, _⟩ => show win0_3.index t 2 * 128 + 1 * i.val = i.val; rw [index3]; simp
  | ⟨3, _⟩ => show win0_3.index t 3 * 128 + 1 * j.val = j.val; rw [index3]; simp

/-- A point reads its batch of the misc block. -/
theorem read4 (t : Fin cfg0.N) (k : Fin 128) (n : Fin 16) :
    blkMisc m c t (ix3 0 k n) = (V m c main_v17 : FVec Ideal S32x128x16 .f32) (ix3 (batch t) k n) := by
  unfold blkMisc iblk
  rw [View.read_apply]
  show V m c main_v17 _ = V m c main_v17 _
  congr 1
  funext a
  apply Fin.ext
  match a with
  | ⟨0, _⟩ => show win0_4.index t 0 * 1 + 1 * 0 = t.val; rw [index4]; simp
  | ⟨1, _⟩ => show win0_4.index t 1 * 128 + 1 * k.val = k.val; rw [index4]; simp
  | ⟨2, _⟩ => show win0_4.index t 2 * 16 + 1 * n.val = n.val; rw [index4]; simp

/-- A misc entry of a real row. -/
theorem misc_in (t : Fin cfg0.N) (k : Fin 128) (hk : k.val < 100) (n : Fin 6) :
    blkMisc m c t (ix3 0 k ⟨n.val, by omega⟩)
      = sixCat (input m c).tab (input m c).tang (input m c).ind (input m c).mask (ix3 (batch t) ⟨k.val, hk⟩ n) := by
  rw [read4, misc_inside m c _ k hk n, V_main_arg3, V_main_arg4, V_main_arg6, V_main_arg7]
  rfl

/-- A misc entry of a padding row. -/
theorem misc_out (t : Fin cfg0.N) (k : Fin 128) (hk : ¬ k.val < 100) (n : Fin 16) :
    blkMisc m c t (ix3 0 k n) = (0 : EReal) := by
  rw [read4, misc_outside m c _ k hk n]

/-- The score of a point's predicted heat map is its batch's. -/
theorem score2 (t : Fin cfg0.N) : score (blkHm m c t) = heat (input m c).hm (batch t) :=
  funext fun p => read2 m c t _ _

/-- The score of a point's target heat map is its batch's. -/
theorem score3 (t : Fin cfg0.N) : score (blkThm m c t) = heat (input m c).thm (batch t) :=
  funext fun p => read3 m c t _ _

/-- The loss of row `k` at a point. -/
def pointLoss (t : Fin cfg0.N) (k : Fin 128) : EReal :=
  lossCol (F := Ideal) (fun j => blkAb m c t (ix4 0 0 (j 2) (j 3))) (fun j => blkAb m c t (ix4 0 1 (j 2) (j 3)))
    (blkAng m c t) (blkHm m c t) (blkThm m c t) (blkMisc m c t) (ix2 k 0)

/-- What a point leaves in the row, by the blocks it reads. -/
def pointVal (t : Fin cfg0.N) (prev : Vec Ideal S1x128 .f32) : Vec Ideal S1x128 .f32 :=
  outVal (blkAb m c t) (blkAng m c t) (blkHm m c t) (blkThm m c t) (blkMisc m c t) prev

/-- Two boxes of equal parts are equal. -/
theorem box_congr {y y' x x' a a' b b' g g' w w' : EReal} (hy : y = y') (hx : x = x') (ha : a = a') (hb : b = b') (hg : g = g')
    (hw : w = w') : box y x a b g w = box y' x' a' b' g' w' := by rw [hy, hx, ha, hb, hg, hw]

/-- A coordinate of a real row. -/
theorem coord_in (val : ℕ → ℕ) {k : ℕ} (hk : k < 100) : coord val k = num (val k) := if_pos hk

variable (hA : (input m c).Tame)
include hA

/-- The predicted box of a real row. -/
theorem pBox_in (t : Fin cfg0.N) (k : Fin 128) (hk : k.val < 100) :
    pBox (fun j => blkAb m c t (ix4 0 0 (j 2) (j 3))) (fun j => blkAb m c t (ix4 0 1 (j 2) (j 3))) (blkAng m c t) (blkHm m c t)
      (blkMisc m c t) k ((input m c).row (batch t) ⟨k.val, hk⟩) ((input m c).col (batch t) ⟨k.val, hk⟩)
      = (input m c).pred (batch t) ⟨k.val, hk⟩ := by
  unfold pBox Input.pred
  rw [score2]
  exact box_congr (coord_in _ hk) (coord_in _ hk) (read0 m c t 0 _ _) (read0 m c t 1 _ _) (read1 m c t _ _)
    ((misc_in m c t k hk 3).trans (six_3 _ _ _ _ _ _))

/-- The target box of a real row. -/
theorem tBox_in (t : Fin cfg0.N) (k : Fin 128) (hk : k.val < 100) :
    tBox (blkThm m c t) (blkMisc m c t) k = (input m c).target (batch t) ⟨k.val, hk⟩ := by
  unfold tBox Input.target
  rw [score3]
  exact box_congr (coord_in _ hk) (coord_in _ hk) ((misc_in m c t k hk 0).trans (six_0 _ _ _ _ _ _))
    ((misc_in m c t k hk 1).trans (six_1 _ _ _ _ _ _)) ((misc_in m c t k hk 2).trans (six_2 _ _ _ _ _ _))
    ((misc_in m c t k hk 3).trans (six_3 _ _ _ _ _ _))

/-- A real row's loss. -/
theorem pointLoss_in (t : Fin cfg0.N) (k : Fin 128) (hk : k.val < 100) :
    pointLoss m c t k = kLoss ((input m c).pred (batch t) ⟨k.val, hk⟩) ((input m c).target (batch t) ⟨k.val, hk⟩) := by
  obtain ⟨p, hp, hx⟩ := hA.ind (ix2 (batch t) ⟨k.val, hk⟩)
  have hN : ((input m c).ind (ix2 (batch t) ⟨k.val, hk⟩)).toNat = p := by rw [hx]; simp; omega
  have hr : p / 128 = ((input m c).row (batch t) ⟨k.val, hk⟩).val := by
    show p / 128 = ((input m c).ind (ix2 (batch t) ⟨k.val, hk⟩)).toNat / 128 % 128
    rw [hN]; omega
  have hc : p % 128 = ((input m c).col (batch t) ⟨k.val, hk⟩).val := by
    show p % 128 = ((input m c).ind (ix2 (batch t) ⟨k.val, hk⟩)).toNat % 128
    rw [hN]
  unfold pointLoss
  rw [lossCol_apply _ _ _ _ _ _ (fun q => by rw [score2]; exact hA.hm _) (fun q => by rw [score3]; exact hA.thm _) k
    ((input m c).row (batch t) ⟨k.val, hk⟩) ((input m c).col (batch t) ⟨k.val, hk⟩)
    ((misc_in m c t k hk 4).trans ((six_4 _ _ _ _ _ _ p hp hx).trans (congrArg num hr)))
    ((misc_in m c t k hk 5).trans ((six_5 _ _ _ _ _ _ p hp hx).trans (congrArg num hc))),
    pBox_in m c hA t k hk, tBox_in m c hA t k hk]

omit hA
/-- A box under mask zero is all zeros. -/
theorem box_zero (y x a b g : EReal) : box y x a b g 0 = fun _ => 0 := by
  funext i
  fin_cases i <;> simp [box]

/-- The number nought. -/
theorem num_zero : num 0 = 0 := by unfold num; simp
include hA

/-- A padding row adds nothing to the loss. -/
theorem pointLoss_out (t : Fin cfg0.N) (k : Fin 128) (hk : ¬ k.val < 100) : lastStep (pointLoss m c t k) = 0 := by
  unfold pointLoss
  rw [lossCol_apply _ _ _ _ _ _ (fun q => by rw [score2]; exact hA.hm _) (fun q => by rw [score3]; exact hA.thm _) k
    0 0 ((misc_out m c t k hk 4).trans num_zero.symm) ((misc_out m c t k hk 5).trans num_zero.symm)]
  unfold pBox tBox
  rw [misc_out m c t k hk 3, box_zero, box_zero]
  exact lastStep_kLoss_zero

omit hA
/-- A sum over 128 rows whose rows from 100 on vanish is the sum over the first 100. -/
theorem sum_first (f : Fin 128 → EReal) (h : ∀ k, ¬ k.val < 100 → f k = 0) : ∑ k, f k = ∑ k : Fin 100, f ⟨k.val, by omega⟩ := by
  rw [Fin.sum_univ_add (a := 100) (b := 28) f, Finset.sum_eq_zero (s := Finset.univ) (f := fun i : Fin 28 => f (Fin.natAdd 100 i)) (fun i _ => h _ (by simp)), add_zero]
  rfl
include hA

/-- The losses of a point's rows summed. -/
theorem pointLoss_sum (t : Fin cfg0.N) : ∑ k : Fin 128, lastStep (pointLoss m c t k)
    = ∑ k : Fin 100, lastStep (kLoss ((input m c).pred (batch t) k) ((input m c).target (batch t) k)) := by
  rw [sum_first (fun k => lastStep (pointLoss m c t k)) (fun k hk => pointLoss_out m c hA t k hk)]
  refine Finset.sum_congr rfl fun k _ => ?_
  rw [pointLoss_in m c hA t ⟨k.val, by omega⟩ k.isLt]

/-- What a point adds to lane 0. -/
theorem point_zero (t : Fin cfg0.N) (prev : Vec Ideal S1x128 .f32) :
    pointVal m c t prev (ix2 0 0)
      = prev (ix2 0 0) + ∑ k : Fin 100, lastStep (kLoss ((input m c).pred (batch t) k) ((input m c).target (batch t) k)) := by
  rw [← pointLoss_sum m c hA t]
  exact stepVal_zero _ _ _ _ _ _ prev

omit hA
/-- What a point adds to lane 1. -/
theorem point_one (t : Fin cfg0.N) (prev : Vec Ideal S1x128 .f32) :
    pointVal m c t prev (ix2 0 1)
      = prev (ix2 0 1) + ∑ k : Fin 100, (input m c).weight (batch t) k := by
  unfold pointVal outVal
  rw [stepVal_one]
  congr 1
  refine (sum_first _ fun k hk => misc_out m c t k hk 3).trans ?_
  exact Finset.sum_congr rfl fun k _ => (misc_in m c t ⟨k.val, by omega⟩ k.isLt 3).trans (six_3 _ _ _ _ _ _)

/-- A sum of a batch's values over the first points, counted by natural numbers. -/
def upto (f : Fin 32 → EReal) (n : ℕ) : EReal := ∑ i ∈ Finset.range n, if h : i < 32 then f ⟨i, h⟩ else 0

/-- A partial sum grows by one term. -/
theorem upto_succ (f : Fin 32 → EReal) (n : ℕ) (h : n < 32) : upto f (n + 1) = upto f n + f ⟨n, h⟩ := by
  unfold upto
  rw [Finset.sum_range_succ, dif_pos h]

/-- The last partial sum is the whole sum. -/
theorem upto_all (f : Fin 32 → EReal) : upto f 32 = ∑ b, f b := by
  unfold upto
  rw [Finset.sum_range]
  exact Finset.sum_congr rfl fun i _ => dif_pos i.isLt

/-- The output row starts at zero. -/
theorem zero_start (i : S1x128.Idx) : k0_pay1 (F := Ideal) i = (0 : EReal) := Ideal.ofBits_zero_f32

include hA
/-- Lane 0 after a point. -/
theorem accum_zero : ∀ (n : ℕ) (hn : n < cfg0.N), accum m c n hn (ix2 0 0)
    = upto (fun b => ∑ k : Fin 100, lastStep (kLoss ((input m c).pred b k) ((input m c).target b k))) (n + 1)
  | 0, hn => by
    rw [upto_succ _ 0 (by decide)]
    refine (point_zero m c hA ⟨0, hn⟩ _).trans ?_
    rw [zero_start]
    rfl
  | n + 1, hn => by
    rw [upto_succ _ (n + 1) (lt_of_lt_of_eq hn N_0), ← accum_zero n (Nat.lt_of_succ_lt hn)]
    exact point_zero m c hA ⟨n + 1, hn⟩ _

omit hA
/-- Lane 1 after a point. -/
theorem accum_one : ∀ (n : ℕ) (hn : n < cfg0.N), accum m c n hn (ix2 0 1)
    = upto (fun b => ∑ k : Fin 100, (input m c).weight b k) (n + 1)
  | 0, hn => by
    rw [upto_succ _ 0 (by decide)]
    refine (point_one m c ⟨0, hn⟩ _).trans ?_
    rw [zero_start]
    rfl
  | n + 1, hn => by
    rw [upto_succ _ (n + 1) (lt_of_lt_of_eq hn N_0), ← accum_one n (Nat.lt_of_succ_lt hn)]
    exact point_one m c ⟨n + 1, hn⟩ _

/-- The last grid point. -/
def lastPoint : Fin cfg0.N := ⟨31, by rw [show cfg0.N = 32 from N_0]; decide⟩

/-- The output row after the last point. -/
abbrev result : Buf (Elt Ideal) ((c.tc : Thread nD τ).loc main_v18) := accum m c 31 lastPoint.isLt

/-- The one write-back, at the last point, writes it. -/
theorem flushed_eq (t : Fin cfg0.N) (hf : (cfg0.win 5).flush t = true) :
    (dats m 0 c).flushed 5 t = ((cfg0.win 5).blk t).view.read (Elt Ideal) (result m c) := by
  have h3 : t.val = 31 := by have := (flush0_5 t).mp hf; have h := lt_of_lt_of_eq t.isLt (show cfg0.N = 32 from N_0); omega
  obtain rfl : t = lastPoint := Fin.ext h3
  show (cfg0.win 5).cut (grid0.coords lastPoint) ((dats m 0 c).after 5 lastPoint) = _
  rw [after5]
  have hz : (fun a => win0_5.index lastPoint a * main_v18.ty.shape.size a) = fun _ => 0 := funext fun a => by
    rw [(by decide +kernel : win0_5.index lastPoint = fun _ => 0)]; simp
  exact (Memref.read_access_unit_zero (Elt Ideal) main_v18 hz (fun a => by rw [congrFun hz a]; simp) (result m c)).symm

/-- So the output row ends holding the row after the last point. -/
theorem final_row : (dats m 0 c).arrAt 5 cfg0.N = result m c :=
  (dats m 0 c).arrAt_eq_of_cover 5 (result m c) (flushed_eq m c) fun i =>
    ⟨lastPoint, (flush0_5 lastPoint).mpr rfl, by
      show i ∈ ((View.whole main_v18).slice (win0_5.rect lastPoint)).set
      rw [View.set_slice_whole, Rect.mem_set_unit]
      intro a
      have h0 : (i 0 : Nat) < 1 := (i 0).isLt
      have h1 : (i 1 : Nat) < 128 := (i 1).isLt
      match a with
      | ⟨0, _⟩ => show win0_5.index lastPoint 0 * win0_5.size 0 ≤ (i 0 : Nat) ∧ (i 0 : Nat) < win0_5.index lastPoint 0 * win0_5.size 0 + win0_5.xsize (grid0.coords lastPoint) 0
                  rw [show win0_5.index lastPoint 0 * win0_5.size 0 = 0 from by decide +kernel, show win0_5.xsize (grid0.coords lastPoint) 0 = 1 from by decide +kernel]; omega
      | ⟨1, _⟩ => show win0_5.index lastPoint 1 * win0_5.size 1 ≤ (i 1 : Nat) ∧ (i 1 : Nat) < win0_5.index lastPoint 1 * win0_5.size 1 + win0_5.xsize (grid0.coords lastPoint) 1
                  rw [show win0_5.index lastPoint 1 * win0_5.size 1 = 0 from by decide +kernel, show win0_5.xsize (grid0.coords lastPoint) 1 = 128 from by decide +kernel]; omega⟩

/-- Window arrays are pairwise distinct. -/
theorem arr_inj : Function.Injective (Pipeline.arrRef spec0) := by decide

/-- The host's quotient of the first two lanes of a row. -/
theorem quotient_apply (x : FVec Ideal S1x128 .f32) (i : S_.Idx) :
    Host.divf (F := Ideal) (shapeCast S_ (extractStridedSlice S1x1 ![0, 0] x slices_S1x128_S1x1_0_0) shapeCasts_S1x1_S_)
      (addf (shapeCast S_ (extractStridedSlice S1x1 ![0, 1] x slices_S1x128_S1x1_0_1) shapeCasts_S1x1_S_)
        (constant S_ .f32 0x322BCC77#32)) i = Ideal.div (x (ix2 0 0)) (x (ix2 0 1) + Ideal.ofBits .f32 0x322BCC77#32) := by
  show Ideal.div (shapeCast S_ (extractStridedSlice S1x1 ![0, 0] x slices_S1x128_S1x1_0_0) shapeCasts_S1x1_S_ i)
    (shapeCast S_ (extractStridedSlice S1x1 ![0, 1] x slices_S1x128_S1x1_0_1) shapeCasts_S1x1_S_ i + Ideal.ofBits .f32 0x322BCC77#32) = _
  rw [shapeCast_apply _ shapeCasts_S1x1_S_ i (ix2 0 0) (by simp [Shape.rowMajor_val_two]; rfl), shapeCast_apply _ shapeCasts_S1x1_S_ i (ix2 0 0) (by simp [Shape.rowMajor_val_two]; rfl)]
  rw [extractStridedSlice_apply _ _ _ _ (ix2 0 0) (fun a => match a with | ⟨0, _⟩ => rfl | ⟨1, _⟩ => rfl),
    extractStridedSlice_apply _ _ _ _ (ix2 0 1) (fun a => match a with | ⟨0, _⟩ => rfl | ⟨1, _⟩ => rfl)]

include hA
/-- The result the host tail computes. -/
theorem tail_value : (Pipeline.afterTail₀ cfgs (dats m) 0 (V0 m) [hostOps1] c main_v24 : FVec Ideal S_ .f32)
    = fun _ => (input m c).meanLoss := by
  have hrow : Pipeline.withArrays (cfgs 0).spec c (V0 m c) (fun w => (dats m 0 c).arrAt w (cfgs 0).N) (Proc.devRef .tc main_v18)
      = result m c := (Pipeline.withArrays_arr spec0 arr_inj c (V0 m c) _ 5).trans (final_row m c)
  unfold Pipeline.afterTail₀
  simp only [hostOps1, List.flatten_cons, List.flatten_nil, List.append_nil]
  after_results_simp
  rw [hrow]
  funext i
  have e0 := accum_zero m c hA 31 lastPoint.isLt
  have e1 := accum_one m c 31 lastPoint.isLt
  rw [upto_all] at e0 e1
  refine (quotient_apply (result m c) i).trans ?_
  unfold Input.meanLoss
  rw [← e0, ← e1]

end Cert.Proof.KI

end
-- ==== Proof.Tame.lean ====
module

public import proofs.«01_k».proof.Defs
public import proofs.«01_k».proof.Proof.KGrid
public import proofs.«01_k».proof.Proof.KEntry
public import Idealize.ShloMosaic.Lib.WordCmp

@[expose] public section

noncomputable section

/-! # What the precondition says of the arguments -/

namespace Cert.Proof

open Idealize.ShloMosaic Idealize.ShloMosaic.TcCoe

/-- A truth value that is one as a word is true. -/
theorem true_of_word {p : Prop} [Decidable p] (h : BitVec.ofBool (decide p) = 1#1) : p := by
  by_contra hn
  rw [decide_eq_false hn] at h
  exact absurd h (by decide)

/-- Two bits whose conjunction is one are both one. -/
theorem both_one : ∀ x y : BitVec 1, x &&& y = 1#1 → x = 1#1 ∧ y = 1#1 := by decide

/-- A word that passes both comparisons is a place on the map. -/
theorem word_in_map (x : BitVec 32) (h : IntOp.andi (IntOp.cmpi .sge x 0#32) (IntOp.cmpi .slt x 16384#32) = 1#1) :
    ∃ p < 16384, x = BitVec.ofNat 32 p := by
  obtain ⟨h1, h2⟩ := both_one _ _ h
  have e0 : (0#32).toInt = 0 := by decide
  have e1 : (16384#32).toInt = 16384 := by decide
  have l : (0#32).toInt ≤ x.toInt := true_of_word h1
  have u : x.toInt < (16384#32).toInt := true_of_word h2
  rw [e0] at l
  rw [e1] at u
  exact word_of_range (n := 16384) x l u

/-- A number that compares greater is greater. -/
theorem gt_of_word (x y : EReal) (h : FloatOps.cmpf (F := Ideal) (φ := .f32) .ogt x y = 1#1) : y < x :=
  true_of_word (p := y < x) h

/-- A number whose magnitude compares below infinity is real. -/
theorem real_of_word (x : EReal)
    (h : FloatOps.cmpf (F := Ideal) (φ := .f32) .olt (max x (-x)) (Ideal.ofBits .f32 0x7F800000#32) = 1#1) : ∃ r : ℝ, x = r := by
  have e : Ideal.ofBits .f32 0x7F800000#32 = ⊤ := by simp [Ideal.ofBits, Ideal.ieee]
  have l : max x (-x) < Ideal.ofBits .f32 0x7F800000#32 := true_of_word (p := max x (-x) < Ideal.ofBits .f32 0x7F800000#32) h
  rw [e] at l
  obtain ⟨l1, l2⟩ := max_lt_iff.mp l
  induction x with
  | bot => exact absurd l2 (by simp)
  | coe r => exact ⟨r, rfl⟩
  | top => exact absurd l1 (by simp)

open Cert.KernelIdeal in
/-- Under the precondition the arguments are tame. -/
theorem tame_of_pre [hPre : Cert.Pre_tame.Facts] (m : (ℓ : Loc nD τ sig) → Buf (Elt Ideal) ℓ)
    (h : Cert.Pre_KernelIdeal_tame m) (c : Dev nD) : (KI.input m c).Tame := by
  obtain ⟨h1, h2, h3, h4, h5⟩ := h c
  exact ⟨fun i => word_in_map _ (congrFun h1 i), fun i => gt_of_word _ _ (congrFun h2 i), fun i => gt_of_word _ _ (congrFun h3 i),
    fun i => real_of_word _ (congrFun h4 i), fun i => real_of_word _ (congrFun h5 i)⟩

end Cert.Proof

end
-- ==== Proof.RTop.lean ====
module

public import proofs.«01_k».proof.Proof.Common
public import proofs.«01_k».proof.Proof.Rank
public import proofs.«01_k».proof.Proof.Gen.ReferenceIdeal.Read
public import Idealize.ShloMosaic.Lib.Routing.Words
public import Idealize.ShloMosaic.Lib.KernelVsHost

@[expose] public section

set_option maxRecDepth 65536

noncomputable section

/-! # The sorts, the gathers and the range masks of the reference -/

namespace Cert.Proof.RI

open Cert.ReferenceIdeal Cert.ReferenceIdeal.Gen Cert.ReferenceIdeal.Read
open Idealize.ShloMosaic Idealize.ShloMosaic.TcCoe Idealize.ShloMosaic.ValueIdx Idealize.ShloMosaic.WordCmp
open scoped BigOperators

/-- "Greater" on the extended reals, as a sort's comparison. -/
theorem gt_one (a b : EReal) : ((FloatOps.cmpfTotal (F := Ideal) (φ := .f32) .gt a b) == 1#1) = decide (b < a) := by
  show (BitVec.ofBool (decide (b < a)) == 1#1) = _
  by_cases h : b < a <;> simp [h]

/-- The places of the largest values of a row of the wide array. -/
theorem wide_sorted (x : FVec Ideal S32x1x16384 .f32) (b : Fin 32) (k : Fin 16384) :
    sortedFrom (fun p q : Fin 16384 => (FloatOps.cmpfTotal (F := Ideal) (φ := .f32) .gt (x (ix3 b 0 p)) (x (ix3 b 0 q))) == 1#1) k
      = rank (fun p => x (ix3 b 0 p)) k := by
  unfold rank
  congr 1
  funext p q
  exact gt_one _ _

/-- The places of the largest values of a row of the narrow array. -/
theorem narrow_sorted (x : FVec Ideal S32x100 .f32) (b : Fin 32) (k : Fin 100) :
    sortedFrom (fun p q : Fin 100 => (FloatOps.cmpfTotal (F := Ideal) (φ := .f32) .gt (x (ix2 b p)) (x (ix2 b q))) == 1#1) k
      = rank (fun p => x (ix2 b p)) k := by
  unfold rank
  congr 1
  funext p q
  exact gt_one _ _

/-- Moving along the last of three axes. -/
theorem along_three {n : ℕ} (b : Fin 32) (p q : Fin n) :
    Shape.Idx.along (s := ⟨3, ![32, 1, n]⟩) (ix3 b 0 p) 2 q = ix3 b 0 q := by
  funext a
  match a with
  | ⟨0, _⟩ => rfl
  | ⟨1, _⟩ => rfl
  | ⟨2, _⟩ => rfl

/-- Moving along the second of two axes. -/
theorem along_two {n : ℕ} (b : Fin 32) (p q : Fin n) :
    Shape.Idx.along (s := ⟨2, ![32, n]⟩) (ix2 b p) 1 q = ix2 b q := by
  funext a
  match a with
  | ⟨0, _⟩ => rfl
  | ⟨1, _⟩ => rfl

/-- Place of entry `k` among the first hundred of the wide array. -/
abbrev wide (k : Fin 100) : Fin 16384 := ⟨k.val, by omega⟩

/-- A pair of arrays sorted along the last of three axes. -/
theorem sort_three {α β : Type} {n : ℕ} (cmp : α × β → α × β → BitVec 1) (x : (⟨3, ![32, 1, n]⟩ : Shape).Idx → α)
    (y : (⟨3, ![32, 1, n]⟩ : Shape).Idx → β) (b : Fin 32) (k : Fin n) :
    (Host.sort2 ⟨3, ![32, 1, n]⟩ 2 cmp x y).1 (ix3 b 0 k)
        = x (ix3 b 0 (sortedFrom (fun p q : Fin n => cmp (x (ix3 b 0 p), y (ix3 b 0 p)) (x (ix3 b 0 q), y (ix3 b 0 q)) == 1#1) k))
      ∧ (Host.sort2 ⟨3, ![32, 1, n]⟩ 2 cmp x y).2 (ix3 b 0 k)
        = y (ix3 b 0 (sortedFrom (fun p q : Fin n => cmp (x (ix3 b 0 p), y (ix3 b 0 p)) (x (ix3 b 0 q), y (ix3 b 0 q)) == 1#1) k)) := by
  unfold Host.sort2
  rw [dif_pos (show 2 < (⟨3, ![32, 1, n]⟩ : Shape).rank from (by decide : 2 < 3))]
  have e : (fun p q : Fin n => cmp (x (Shape.Idx.along (s := ⟨3, ![32, 1, n]⟩) (ix3 b 0 k) 2 p), y (Shape.Idx.along (s := ⟨3, ![32, 1, n]⟩) (ix3 b 0 k) 2 p))
        (x (Shape.Idx.along (s := ⟨3, ![32, 1, n]⟩) (ix3 b 0 k) 2 q), y (Shape.Idx.along (s := ⟨3, ![32, 1, n]⟩) (ix3 b 0 k) 2 q)) == 1#1)
      = fun p q : Fin n => cmp (x (ix3 b 0 p), y (ix3 b 0 p)) (x (ix3 b 0 q), y (ix3 b 0 q)) == 1#1 := by
    funext p q
    rw [along_three, along_three]
  rw [← e]
  exact ⟨congrArg x (along_three b k _), congrArg y (along_three b k _)⟩

/-- A pair of arrays sorted along the second of two axes. -/
theorem sort_two {α β : Type} {n : ℕ} (cmp : α × β → α × β → BitVec 1) (x : (⟨2, ![32, n]⟩ : Shape).Idx → α)
    (y : (⟨2, ![32, n]⟩ : Shape).Idx → β) (b : Fin 32) (k : Fin n) :
    (Host.sort2 ⟨2, ![32, n]⟩ 1 cmp x y).1 (ix2 b k)
        = x (ix2 b (sortedFrom (fun p q : Fin n => cmp (x (ix2 b p), y (ix2 b p)) (x (ix2 b q), y (ix2 b q)) == 1#1) k))
      ∧ (Host.sort2 ⟨2, ![32, n]⟩ 1 cmp x y).2 (ix2 b k)
        = y (ix2 b (sortedFrom (fun p q : Fin n => cmp (x (ix2 b p), y (ix2 b p)) (x (ix2 b q), y (ix2 b q)) == 1#1) k)) := by
  unfold Host.sort2
  rw [dif_pos (show 1 < (⟨2, ![32, n]⟩ : Shape).rank from (by decide : 1 < 2))]
  have e : (fun p q : Fin n => cmp (x (Shape.Idx.along (s := ⟨2, ![32, n]⟩) (ix2 b k) 1 p), y (Shape.Idx.along (s := ⟨2, ![32, n]⟩) (ix2 b k) 1 p))
        (x (Shape.Idx.along (s := ⟨2, ![32, n]⟩) (ix2 b k) 1 q), y (Shape.Idx.along (s := ⟨2, ![32, n]⟩) (ix2 b k) 1 q)) == 1#1)
      = fun p q : Fin n => cmp (x (ix2 b p), y (ix2 b p)) (x (ix2 b q), y (ix2 b q)) == 1#1 := by
    funext p q
    rw [along_two, along_two]
  rw [← e]
  exact ⟨congrArg x (along_two b k _), congrArg y (along_two b k _)⟩

/-- The first hundred of the wide array. -/
theorem first_wide {α : Type} (x : S32x1x16384.Idx → α) (b : Fin 32) (k : Fin 100) :
    extractStridedSlice S32x1x100 (fun _ => 0) x sliceFits_S32x1x16384_S32x1x100 (ix3 b 0 k) = x (ix3 b 0 (wide k)) :=
  extractStridedSlice_apply (fun _ => 0) x sliceFits_S32x1x16384_S32x1x100 (ix3 b 0 k) (ix3 b 0 (wide k)) (fun a => match a with
    | ⟨0, _⟩ => (Nat.zero_add _).symm
    | ⟨1, _⟩ => rfl
    | ⟨2, _⟩ => (Nat.zero_add _).symm)

/-- All of the narrow array. -/
theorem first_narrow {α : Type} (x : S32x100.Idx → α) (b : Fin 32) (k : Fin 100) :
    extractStridedSlice S32x100 (fun _ => 0) x sliceFits_S32x100_S32x100 (ix2 b k) = x (ix2 b k) :=
  extractStridedSlice_apply (fun _ => 0) x sliceFits_S32x100_S32x100 (ix2 b k) (ix2 b k) (fun a => match a with
    | ⟨0, _⟩ => (Nat.zero_add _).symm
    | ⟨1, _⟩ => (Nat.zero_add _).symm)

/-- The value at place `k` of the sorted wide array. -/
theorem topValue_wide (x : FVec Ideal S32x1x16384 .f32) (b : Fin 32) (k : Fin 100) :
    (Host.topK S32x1x100 2 (FloatOps.cmpfTotal (F := Ideal) (φ := .f32) .gt) x sliceFits_S32x1x16384_S32x1x100).1 (ix3 b 0 k)
      = x (ix3 b 0 (rank (fun p => x (ix3 b 0 p)) (wide k))) := by
  refine (first_wide (Host.sort2 S32x1x16384 2 (fun l r => FloatOps.cmpfTotal (F := Ideal) (φ := .f32) .gt l.1 r.1) x (fun i => if hd : 2 < S32x1x16384.rank then iotaInDim S32x1x16384 32 ⟨2, hd⟩ i else 0#32)).1 b k).trans ?_
  rw [← wide_sorted]
  exact (sort_three _ x _ b (wide k)).1

/-- The index at place `k` of the sorted wide array. -/
theorem topIndex_wide (x : FVec Ideal S32x1x16384 .f32) (b : Fin 32) (k : Fin 100) :
    (Host.topK S32x1x100 2 (FloatOps.cmpfTotal (F := Ideal) (φ := .f32) .gt) x sliceFits_S32x1x16384_S32x1x100).2 (ix3 b 0 k)
      = BitVec.ofNat 32 (rank (fun p => x (ix3 b 0 p)) (wide k)).val := by
  refine (first_wide (Host.sort2 S32x1x16384 2 (fun l r => FloatOps.cmpfTotal (F := Ideal) (φ := .f32) .gt l.1 r.1) x (fun i => if hd : 2 < S32x1x16384.rank then iotaInDim S32x1x16384 32 ⟨2, hd⟩ i else 0#32)).2 b k).trans ?_
  rw [← wide_sorted]
  exact (sort_three _ x _ b (wide k)).2

/-- The index at place `k` of the sorted narrow array. -/
theorem topIndex_narrow (x : FVec Ideal S32x100 .f32) (b : Fin 32) (k : Fin 100) :
    (Host.topK S32x100 1 (FloatOps.cmpfTotal (F := Ideal) (φ := .f32) .gt) x sliceFits_S32x100_S32x100).2 (ix2 b k)
      = BitVec.ofNat 32 (rank (fun p => x (ix2 b p)) k).val := by
  refine (first_narrow (Host.sort2 S32x100 1 (fun l r => FloatOps.cmpfTotal (F := Ideal) (φ := .f32) .gt l.1 r.1) x (fun i => if hd : 1 < S32x100.rank then iotaInDim S32x100 32 ⟨1, hd⟩ i else 0#32)).2 b k).trans ?_
  rw [← narrow_sorted]
  exact (sort_two _ x _ b k).2

/-- A fold by "and" of true words is true. -/
theorem foldl_and_one {ι : Type} (l : List ι) (f : ι → BitVec 1) (hf : ∀ n, f n = 1#1) :
    l.foldl (fun r n => IntOp.andi r (f n)) 1#1 = 1#1 := by
  induction l with
  | nil => rfl
  | cons a l ih => rw [List.foldl_cons, hf a]; exact ih

/-- A reduction by "and" of an array of true words is true. -/
theorem reduce_and_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_and_one _ _ fun n => hx _

/-- A word that is not negative is left as it stands by the wrap of negative indices. -/
theorem wrap_word (p : ℕ) (hp : p < 2 ^ 31) (n : BitVec 32) :
    Scalar.select (IntOp.cmpi .slt (BitVec.ofNat 32 p) 0#32) (IntOp.addi (BitVec.ofNat 32 p) n) (BitVec.ofNat 32 p) = BitVec.ofNat 32 p := by
  rw [show (0#32 : BitVec 32) = BitVec.ofNat 32 0 from rfl, cmpi_slt_ofNat (w := 32) hp (by decide)]
  simp only [Nat.not_lt_zero, decide_false]
  rfl

/-- A word in range passes the range test. -/
theorem guard_word (p q : ℕ) (hp : p ≤ q) (hq : q < 2 ^ 31) :
    IntOp.andi (IntOp.cmpi .sge (BitVec.ofNat 32 p) 0#32) (IntOp.cmpi .sle (BitVec.ofNat 32 p) (BitVec.ofNat 32 q)) = 1#1 := by
  rw [show (0#32 : BitVec 32) = BitVec.ofNat 32 0 from rfl, cmpi_sge_ofNat (w := 32) (lt_of_le_of_lt hp hq) (by decide),
    cmpi_sle_ofNat (w := 32) (lt_of_le_of_lt hp hq) hq]
  simp only [Nat.zero_le, hp, decide_true]
  rfl

/-- The signed reading of a small word. -/
theorem word_toNat (p : ℕ) (hp : p < 2 ^ 31) : (BitVec.ofNat 32 p).toInt.toNat = p := by
  rw [BitVec.toInt_eq_toNat_cond, BitVec.toNat_ofNat, Nat.mod_eq_of_lt (by omega), if_pos (by omega)]
  rfl

section Gathers

variable {α : Type}

/-- The gather that picks one entry per box and column. -/
theorem gather_pairs (x : S32x16384x2.Idx → α) (idx : IVec S32x100x2x1 32) (b : Fin 32) (k : Fin 100) (n : Fin 2) :
    Host.gather gather_S32x16384x2_S32x100x2x1_S32x100x2_n_1_02_02_1_3_111 x idx (ix3 b k n)
      = x (ix3 b ⟨min (idx (ix4 b k n 0)).toInt.toNat 16383, by omega⟩ n) := by
  unfold Host.gather
  congr 1
  funext a
  refine Fin.ext ?_
  match a with
  | ⟨0, _⟩ =>
    show gather_S32x16384x2_S32x100x2x1_S32x100x2_n_1_02_02_1_3_111.start (ix3 b k n) idx (0 : Fin 3) + gather_S32x16384x2_S32x100x2x1_S32x100x2_n_1_02_02_1_3_111.batchCoord (ix3 b k n) (0 : Fin 3) + gather_S32x16384x2_S32x100x2x1_S32x100x2_n_1_02_02_1_3_111.offCoord (ix3 b k n) (0 : Fin 3) = _
    rw [GatherDims.start_batching _ _ _ _ (show (0 : Fin 3) ∈ gather_S32x16384x2_S32x100x2x1_S32x100x2_n_1_02_02_1_3_111.operandBatchingDims by decide),
      GatherDims.offCoord_eq_zero _ _ _ (fun h => ((GatherDims.mem_sKept _ _).mp h).2 (show (0 : Fin 3) ∈ gather_S32x16384x2_S32x100x2x1_S32x100x2_n_1_02_02_1_3_111.operandBatchingDims by decide)),
      Nat.zero_add, Nat.add_zero]
    rfl
  | ⟨1, _⟩ =>
    show _ = min (idx (ix4 b k n 0)).toInt.toNat 16383
    have hsi : gather_S32x16384x2_S32x100x2x1_S32x100x2_n_1_02_02_1_3_111.siIdx (ix3 b k n) ⟨0, by decide⟩ = ix4 b k n 0 := by
      funext c
      match c with
      | ⟨0, _⟩ => rfl
      | ⟨1, _⟩ => rfl
      | ⟨2, _⟩ => rfl
      | ⟨3, _⟩ => rfl
    rw [← hsi]
    rfl
  | ⟨2, _⟩ =>
    show gather_S32x16384x2_S32x100x2x1_S32x100x2_n_1_02_02_1_3_111.start (ix3 b k n) idx (2 : Fin 3) + gather_S32x16384x2_S32x100x2x1_S32x100x2_n_1_02_02_1_3_111.batchCoord (ix3 b k n) (2 : Fin 3) + gather_S32x16384x2_S32x100x2x1_S32x100x2_n_1_02_02_1_3_111.offCoord (ix3 b k n) (2 : Fin 3) = _
    rw [GatherDims.start_batching _ _ _ _ (show (2 : Fin 3) ∈ gather_S32x16384x2_S32x100x2x1_S32x100x2_n_1_02_02_1_3_111.operandBatchingDims by decide),
      GatherDims.offCoord_eq_zero _ _ _ (fun h => ((GatherDims.mem_sKept _ _).mp h).2 (show (2 : Fin 3) ∈ gather_S32x16384x2_S32x100x2x1_S32x100x2_n_1_02_02_1_3_111.operandBatchingDims by decide)),
      Nat.zero_add, Nat.add_zero]
    rfl

/-- The gather that picks one entry per box. -/
theorem gather_single (x : S32x16384x1.Idx → α) (idx : IVec S32x100x1 32) (b : Fin 32) (k : Fin 100) :
    Host.gather gather_S32x16384x1_S32x100x1_S32x100x1_2_1_0_0_1_2_111 x idx (ix3 b k 0)
      = x (ix3 b ⟨min (idx (ix3 b k 0)).toInt.toNat 16383, by omega⟩ 0) := by
  unfold Host.gather
  congr 1
  funext a
  refine Fin.ext ?_
  match a with
  | ⟨0, _⟩ =>
    show gather_S32x16384x1_S32x100x1_S32x100x1_2_1_0_0_1_2_111.start (ix3 b k 0) idx (0 : Fin 3) + gather_S32x16384x1_S32x100x1_S32x100x1_2_1_0_0_1_2_111.batchCoord (ix3 b k 0) (0 : Fin 3) + gather_S32x16384x1_S32x100x1_S32x100x1_2_1_0_0_1_2_111.offCoord (ix3 b k 0) (0 : Fin 3) = _
    rw [GatherDims.start_batching _ _ _ _ (show (0 : Fin 3) ∈ gather_S32x16384x1_S32x100x1_S32x100x1_2_1_0_0_1_2_111.operandBatchingDims by decide),
      GatherDims.offCoord_eq_zero _ _ _ (fun h => ((GatherDims.mem_sKept _ _).mp h).2 (show (0 : Fin 3) ∈ gather_S32x16384x1_S32x100x1_S32x100x1_2_1_0_0_1_2_111.operandBatchingDims by decide)),
      Nat.zero_add, Nat.add_zero]
    rfl
  | ⟨1, _⟩ =>
    show _ = min (idx (ix3 b k 0)).toInt.toNat 16383
    have hsi : gather_S32x16384x1_S32x100x1_S32x100x1_2_1_0_0_1_2_111.siIdx (ix3 b k 0) ⟨0, by decide⟩ = ix3 b k 0 := by
      funext c
      match c with
      | ⟨0, _⟩ => rfl
      | ⟨1, _⟩ => rfl
      | ⟨2, _⟩ => rfl
    refine Eq.trans ?_ (congrArg (fun u => min (idx u).toInt.toNat 16383) hsi)
    rfl
  | ⟨2, _⟩ => rfl

/-- The gather within a row. -/
theorem gather_row (x : S32x100.Idx → α) (idx : IVec S32x100x1 32) (b : Fin 32) (k : Fin 100) :
    Host.gather gather_S32x100_S32x100x1_S32x100_n_1_0_0_1_2_11 x idx (ix2 b k)
      = x (ix2 b ⟨min (idx (ix3 b k 0)).toInt.toNat 99, by omega⟩) := by
  unfold Host.gather
  congr 1
  funext a
  refine Fin.ext ?_
  match a with
  | ⟨0, _⟩ =>
    show gather_S32x100_S32x100x1_S32x100_n_1_0_0_1_2_11.start (ix2 b k) idx (0 : Fin 2) + gather_S32x100_S32x100x1_S32x100_n_1_0_0_1_2_11.batchCoord (ix2 b k) (0 : Fin 2) + gather_S32x100_S32x100x1_S32x100_n_1_0_0_1_2_11.offCoord (ix2 b k) (0 : Fin 2) = _
    rw [GatherDims.start_batching _ _ _ _ (show (0 : Fin 2) ∈ gather_S32x100_S32x100x1_S32x100_n_1_0_0_1_2_11.operandBatchingDims by decide),
      GatherDims.offCoord_eq_zero _ _ _ (fun h => ((GatherDims.mem_sKept _ _).mp h).2 (show (0 : Fin 2) ∈ gather_S32x100_S32x100x1_S32x100_n_1_0_0_1_2_11.operandBatchingDims by decide)),
      Nat.zero_add, Nat.add_zero]
    rfl
  | ⟨1, _⟩ =>
    show _ = min (idx (ix3 b k 0)).toInt.toNat 99
    have hsi : gather_S32x100_S32x100x1_S32x100_n_1_0_0_1_2_11.siIdx (ix2 b k) ⟨0, by decide⟩ = ix3 b k 0 := by
      funext c
      match c with
      | ⟨0, _⟩ => rfl
      | ⟨1, _⟩ => rfl
      | ⟨2, _⟩ => rfl
    rw [← hsi]
    rfl

/-- The gather of entries of two-by-two matrices. -/
theorem gather_entries (x : S3200x2x2.Idx → α) (idx : IVec S2x2 32) (i : Fin 3200) (k : Fin 2) :
    Host.gather gather_S3200x2x2_S2x2_S3200x2_0_12_n_n_12_1_320011 x idx (ix2 i k)
      = x (ix3 i ⟨min (idx (ix2 k 0)).toInt.toNat 1, by omega⟩ ⟨min (idx (ix2 k 1)).toInt.toNat 1, by omega⟩) := by
  unfold Host.gather
  congr 1
  funext a
  refine Fin.ext ?_
  match a with
  | ⟨0, _⟩ =>
    show 0 + 0 + i.val = i.val
    omega
  | ⟨1, _⟩ =>
    show _ = min (idx (ix2 k 0)).toInt.toNat 1
    have hsi : gather_S3200x2x2_S2x2_S3200x2_0_12_n_n_12_1_320011.siIdx (ix2 i k) ⟨0, by decide⟩ = ix2 k 0 := by
      funext c
      match c with
      | ⟨0, _⟩ => rfl
      | ⟨1, _⟩ => rfl
    rw [← hsi]
    rfl
  | ⟨2, _⟩ =>
    show _ = min (idx (ix2 k 1)).toInt.toNat 1
    have hsi : gather_S3200x2x2_S2x2_S3200x2_0_12_n_n_12_1_320011.siIdx (ix2 i k) ⟨1, by decide⟩ = ix2 k 1 := by
      funext c
      match c with
      | ⟨0, _⟩ => rfl
      | ⟨1, _⟩ => rfl
    rw [← hsi]
    rfl

end Gathers

end Cert.Proof.RI

end
-- ==== Proof.RBox.lean ====
module

public import proofs.«01_k».proof.Proof.RTop
public import proofs.«01_k».proof.Proof.KEntry

@[expose] public section

set_option maxRecDepth 65536

noncomputable section

/-! # The boxes of the reference -/

namespace Cert.Proof.RI

open Cert.ReferenceIdeal Cert.ReferenceIdeal.Gen Cert.ReferenceIdeal.Read
open Idealize.ShloMosaic Idealize.ShloMosaic.TcCoe Idealize.ShloMosaic.ValueIdx
open scoped BigOperators

/-! ### The peaks of a heat map -/

section Peaks

variable (hm : FVec Ideal S32x1x128x128 .f32) (b : Fin 32) (k : Fin 100)

/-- The flattened heat map, row by row. -/
theorem heat_row : (fun p : Fin 16384 => val_main_v13 (F := Ideal) hm (ix3 b 0 p)) = heat hm b := by
  funext p
  refine (val_main_v13_apply (F := Ideal) hm (ix3 b 0 p)).trans (congrArg hm ?_)
  funext a
  match a with
  | ⟨0, _⟩ => refine Fin.ext ?_; show ((b.val * 1 + 0) * 16384 + p.val) / 16384 = b.val; omega
  | ⟨1, _⟩ => rfl
  | ⟨2, _⟩ => refine Fin.ext ?_; show ((b.val * 1 + 0) * 16384 + p.val) / 128 % 128 = p.val / 128; omega
  | ⟨3, _⟩ => refine Fin.ext ?_; show ((b.val * 1 + 0) * 16384 + p.val) % 128 = p.val % 128; omega

/-- The rank of an early place, as a number. -/
theorem nth_wide (f : Fin 16384 → EReal) : nth f k.val = (rank f (wide k)).val :=
  dif_pos (show k.val < 16384 by omega)

/-- The flat position of peak `k`. -/
theorem peak_index : val_main_indices (F := Ideal) hm (ix3 b 0 k) = BitVec.ofNat 32 (nth (heat hm b) k.val) := by
  rw [nth_wide, ← heat_row hm b]
  exact topIndex_wide (val_main_v13 (F := Ideal) hm) b k

/-- The value of peak `k`. -/
theorem peak_value : val_main_values (F := Ideal) hm (ix3 b 0 k) = heat hm b (rank (heat hm b) (wide k)) := by
  rw [← heat_row hm b]
  exact topValue_wide (val_main_v13 (F := Ideal) hm) b k

/-- The flat position taken within its class is itself. -/
theorem peak_flat : val_main_v14 (F := Ideal) hm (ix3 b 0 k) = BitVec.ofNat 32 (nth (heat hm b) k.val) := by
  have hn := nth_lt (heat hm b) k.val
  refine (Routing.pyRem_ap bcast_S_S32x1x100 (val_main_indices (F := Ideal) hm) (constantI S_ 32 16384#32) (ix3 b 0 k)
    (peak_index hm b k) rfl (by omega) (by omega) (by omega)).trans ?_
  rw [Nat.mod_eq_of_lt hn]

/-- The row of peak `k`. -/
theorem peak_row : val_main_v15 (F := Ideal) hm (ix3 b 0 k) = BitVec.ofNat 32 (nth (heat hm b) k.val / 128) := by
  have hn := nth_lt (heat hm b) k.val
  exact Routing.pyDiv_ap bcast_S_S32x1x100 (val_main_v14 (F := Ideal) hm) (constantI S_ 32 128#32) (ix3 b 0 k)
    (peak_flat hm b k) rfl (by omega) (by omega) (by omega)

/-- The column of peak `k`. -/
theorem peak_col : val_main_v17 (F := Ideal) hm (ix3 b 0 k) = BitVec.ofNat 32 (nth (heat hm b) k.val % 128) := by
  have hn := nth_lt (heat hm b) k.val
  exact Routing.pyRem_ap bcast_S_S32x1x100 (val_main_v14 (F := Ideal) hm) (constantI S_ 32 128#32) (ix3 b 0 k)
    (peak_flat hm b k) rfl (by omega) (by omega) (by omega)

/-- Dropping the class axis. -/
theorem drop_class (b : Fin 32) (k : Fin 100) : idx_main_v20 (ix2 b k) = ix3 b 0 k := by
  funext a
  match a with
  | ⟨0, _⟩ => refine Fin.ext ?_; show (b.val * 100 + k.val) / 100 = b.val; omega
  | ⟨1, _⟩ => rfl
  | ⟨2, _⟩ => refine Fin.ext ?_; show (b.val * 100 + k.val) % 100 = k.val; omega

/-- The row of peak `k` as a number. -/
theorem peak_row_num : val_main_v20 (F := Ideal) hm (ix2 b k) = KI.num (nth (heat hm b) k.val / 128) := by
  have hn := nth_lt (heat hm b) k.val
  rw [val_main_v20_apply, drop_class, val_main_v16_apply, peak_row]
  exact (congrArg (fun z : ℤ => ((z : ℝ) : EReal)) (StableHlo.Predicate.toInt_ofNat_small (nth (heat hm b) k.val / 128) (by omega))).trans
    (congrArg (fun r : ℝ => (r : EReal)) (Int.cast_natCast _))

/-- The column of peak `k` as a number. -/
theorem peak_col_num : val_main_v22 (F := Ideal) hm (ix2 b k) = KI.num (nth (heat hm b) k.val % 128) := by
  have hn := nth_lt (heat hm b) k.val
  rw [val_main_v22_apply, show idx_main_v22 (ix2 b k) = ix3 b 0 k from drop_class b k, val_main_v18_apply, peak_col]
  exact (congrArg (fun z : ℤ => ((z : ℝ) : EReal)) (StableHlo.Predicate.toInt_ofNat_small (nth (heat hm b) k.val % 128) (by omega))).trans
    (congrArg (fun r : ℝ => (r : EReal)) (Int.cast_natCast _))

/-- The peak values come in descending order. -/
theorem peaks_antitone : Antitone fun k : Fin 100 => val_main_v19 (F := Ideal) hm (ix2 b k) := by
  have e : (fun k : Fin 100 => val_main_v19 (F := Ideal) hm (ix2 b k)) = fun k => heat hm b (rank (heat hm b) (wide k)) := by
    funext k
    rw [val_main_v19_apply, show idx_main_v19 (ix2 b k) = ix3 b 0 k from drop_class b k, peak_value]
  rw [e]
  exact fun i j hij => rank_antitone (heat hm b) (show wide i ≤ wide j from hij)

/-- Sorting the peaks again leaves them where they are. -/
theorem peak_again : val_main_indices_3 (F := Ideal) hm (ix2 b k) = BitVec.ofNat 32 k.val := by
  refine (topIndex_narrow (val_main_v19 (F := Ideal) hm) b k).trans ?_
  rw [rank_of_antitone _ (peaks_antitone hm b)]

/-- The same at any position of the array. -/
theorem peak_again_at (i : S32x100.Idx) : val_main_indices_3 (F := Ideal) hm i = BitVec.ofNat 32 (i 1).val := by
  have hi : i = ix2 (i 0) (i 1) := eq_ix2 i
  rw [hi]
  exact peak_again hm (i 0) (i 1)

/-- The wrapped index, at any position. -/
theorem again_index (i : S32x100x1.Idx) : val_main_call5_v5 (F := Ideal) hm i = BitVec.ofNat 32 (i 1).val := by
  have h1 : (i 1).val < 100 := (i 1).isLt
  have h0 : (i 0).val < 32 := (i 0).isLt
  have h2 : (i 2).val < 1 := (i 2).isLt
  rw [val_main_call5_v5_apply, val_main_call5_v4_apply, val_main_call5_v1_apply, val_main_call5_v3_apply, peak_again_at,
    val_main_call5_v0_apply, val_main_call5_c_apply]
  have e : (idx_main_call5_v5 i 1).val = (i 1).val := by
    show (((i 0).val * 100 + (i 1).val) * 1 + (i 2).val) % 100 = (i 1).val
    omega
  rw [e]
  exact wrap_word _ (by omega) _

/-- Every index is in range. -/
theorem again_guard (j : S32x100.Idx) : val_main_call5_v12 (F := Ideal) hm j = 1#1 := by
  refine reduce_and_one _ _ _ _ (fun i => ?_) (fun i => rfl) j
  have h1 : (i 1).val < 100 := (i 1).isLt
  rw [val_main_call5_v11_apply, val_main_call5_v7_apply, val_main_call5_v10_apply, again_index, val_main_call5_v6_apply,
    val_main_call5_c_2_apply, val_main_call5_v9_apply, val_main_call5_v8_apply, val_main_call5_c_1_apply]
  exact guard_word _ 99 (by omega) (by omega)

/-- Picking along the second sort picks each entry itself. -/
theorem again_pick (x : FVec Ideal S32x100 .f32) (z : EReal) :
    Scalar.select (val_main_call5_v12 (F := Ideal) hm (ix2 b k))
      (Host.gather gather_S32x100_S32x100x1_S32x100_n_1_0_0_1_2_11 x (val_main_call5_v5 (F := Ideal) hm) (ix2 b k)) z = x (ix2 b k) := by
  have e : val_main_call5_v5 (F := Ideal) hm (ix3 b k 0) = BitVec.ofNat 32 k.val := again_index hm (ix3 b k 0)
  rw [again_guard]
  refine (gather_row x (val_main_call5_v5 (F := Ideal) hm) b k).trans ?_
  refine congrArg x (congrArg (ix2 b) (Fin.ext ?_))
  show min (val_main_call5_v5 (F := Ideal) hm (ix3 b k 0)).toInt.toNat 99 = k.val
  rw [e, word_toNat _ (by omega)]
  omega

/-- The rows, after the second sort. -/
theorem rows_sorted : val_main_v21 (F := Ideal) hm (ix2 b k) = KI.num (nth (heat hm b) k.val / 128) :=
  (again_pick hm b k (val_main_v20 (F := Ideal) hm) (val_main_call5_v14 (F := Ideal) (ix2 b k))).trans (peak_row_num hm b k)

/-- The columns, after the second sort. -/
theorem cols_sorted : val_main_v23 (F := Ideal) hm (ix2 b k) = KI.num (nth (heat hm b) k.val % 128) :=
  (again_pick hm b k (val_main_v22 (F := Ideal) hm) (val_main_call6_v14 (F := Ideal) (ix2 b k))).trans (peak_col_num hm b k)

/-- Adding a last axis of extent one. -/
theorem last_axis (b : Fin 32) (k : Fin 100) : idx_main_v24 (ix3 b k 0) = ix2 b k := by
  funext a
  match a with
  | ⟨0, _⟩ => refine Fin.ext ?_; show ((b.val * 100 + k.val) * 1 + 0) / 100 = b.val; omega
  | ⟨1, _⟩ => refine Fin.ext ?_; show ((b.val * 100 + k.val) * 1 + 0) % 100 = k.val; omega

/-- The first half of a centre: its row. -/
theorem centre_row : val_main_v26 (F := Ideal) hm (ix3 b k 0) = KI.num (nth (heat hm b) k.val / 128) := by
  refine (concatenate_apply_piece (t := S32x100x2) 2
      [⟨S32x100x1, val_main_v24 (F := Ideal) hm⟩, ⟨S32x100x1, val_main_v25 (F := Ideal) hm⟩]
      concatenates_S32x100x1_S32x100x1_S32x100x2_d2 _ 0 (show 0 < 2 from by decide) S32x100x1 (val_main_v24 (F := Ideal) hm) rfl rfl 0 rfl
      (ix3 b k 0) (fun a ha => by
        match a with
        | ⟨0, _⟩ => rfl
        | ⟨1, _⟩ => rfl
        | ⟨2, _⟩ => exact absurd rfl ha) rfl).trans ?_
  rw [val_main_v24_apply, last_axis, rows_sorted]

/-- The second half of a centre: its column. -/
theorem centre_col : val_main_v26 (F := Ideal) hm (ix3 b k 1) = KI.num (nth (heat hm b) k.val % 128) := by
  refine (concatenate_apply_piece (t := S32x100x2) 2
      [⟨S32x100x1, val_main_v24 (F := Ideal) hm⟩, ⟨S32x100x1, val_main_v25 (F := Ideal) hm⟩]
      concatenates_S32x100x1_S32x100x1_S32x100x2_d2 _ 1 (show 1 < 2 from by decide) S32x100x1 (val_main_v25 (F := Ideal) hm) rfl rfl 1 rfl
      (ix3 b k 0) (fun a ha => by
        match a with
        | ⟨0, _⟩ => rfl
        | ⟨1, _⟩ => rfl
        | ⟨2, _⟩ => exact absurd rfl ha) rfl).trans ?_
  rw [val_main_v25_apply, show idx_main_v25 (ix3 b k 0) = ix2 b k from last_axis b k, cols_sorted]

/-- The target's centres are computed the same way. -/
theorem centre_target : val_main_v48 (F := Ideal) hm = val_main_v26 (F := Ideal) hm := rfl

end Peaks

/-! ### The sides and the angle at the given positions -/

section Picked

variable (ab : FVec Ideal S32x2x128x128 .f32) (ang : FVec Ideal S32x1x128x128 .f32) (ind : IVec S32x100 32)
variable (hind : ∀ i, ∃ p < 16384, ind i = BitVec.ofNat 32 p) (b : Fin 32) (k : Fin 100)

/-- The sides, flattened. -/
theorem sides_flat (p : Fin 16384) (n : Fin 2) : val_main_v1 (F := Ideal) ab (ix3 b p n)
    = ab (ix4 b n ⟨p.val / 128, by omega⟩ ⟨p.val % 128, by omega⟩) := by
  rw [val_main_v1_apply, val_main_v0_apply]
  refine congrArg ab ?_
  funext a
  match a with
  | ⟨0, _⟩ => refine Fin.ext ?_; show ((b.val * 16384 + p.val) * 2 + n.val) / 32768 = b.val; omega
  | ⟨1, _⟩ => refine Fin.ext ?_; show ((b.val * 16384 + p.val) * 2 + n.val) % 2 = n.val; omega
  | ⟨2, _⟩ => refine Fin.ext ?_; show ((b.val * 16384 + p.val) * 2 + n.val) / 256 % 128 = p.val / 128; omega
  | ⟨3, _⟩ => refine Fin.ext ?_; show ((b.val * 16384 + p.val) * 2 + n.val) / 2 % 128 = p.val % 128; omega

/-- The angle, flattened. -/
theorem angle_flat (p : Fin 16384) : val_main_v9 (F := Ideal) ang (ix3 b p 0)
    = ang (ix4 b 0 ⟨p.val / 128, by omega⟩ ⟨p.val % 128, by omega⟩) := by
  rw [val_main_v9_apply, val_main_v8_apply]
  refine congrArg ang ?_
  funext a
  match a with
  | ⟨0, _⟩ => refine Fin.ext ?_; show ((b.val * 16384 + p.val) * 1 + 0) / 16384 = b.val; omega
  | ⟨1, _⟩ => rfl
  | ⟨2, _⟩ => refine Fin.ext ?_; show ((b.val * 16384 + p.val) * 1 + 0) / 128 % 128 = p.val / 128; omega
  | ⟨3, _⟩ => refine Fin.ext ?_; show ((b.val * 16384 + p.val) * 1 + 0) / 1 % 128 = p.val % 128; omega

include hind

/-- The wrapped index of the sides, at any position. -/
theorem sides_index (i : S32x100x2x1.Idx) : val_main_call0_v5 (F := Ideal) ind i = ind (ix2 (i 0) (i 1)) := by
  have h0 : (i 0).val < 32 := (i 0).isLt
  have h1 : (i 1).val < 100 := (i 1).isLt
  have h2 : (i 2).val < 2 := (i 2).isLt
  have h3 : (i 3).val < 1 := (i 3).isLt
  have e : val_main_v3 (F := Ideal) ind (idx_main_call0_v5 i) = ind (ix2 (i 0) (i 1)) := by
    rw [val_main_v3_apply, val_main_v2_apply]
    refine congrArg ind ?_
    funext a
    match a with
    | ⟨0, _⟩ => refine Fin.ext ?_; show ((((i 0).val * 100 + (i 1).val) * 2 + (i 2).val) * 1 + (i 3).val) / 200 = (i 0).val; omega
    | ⟨1, _⟩ => refine Fin.ext ?_; show ((((i 0).val * 100 + (i 1).val) * 2 + (i 2).val) * 1 + (i 3).val) / 2 % 100 = (i 1).val; omega
  rw [val_main_call0_v5_apply, val_main_call0_v4_apply, val_main_call0_v1_apply, val_main_call0_v3_apply, e,
    val_main_call0_v0_apply, val_main_call0_c_apply]
  obtain ⟨p, hp, hx⟩ := hind (ix2 (i 0) (i 1))
  rw [hx]
  exact wrap_word _ (by omega) _

/-- Every index of the sides is in range. -/
theorem sides_guard (j : S32x100x2.Idx) : val_main_call0_v12 (F := Ideal) ind j = 1#1 := by
  refine reduce_and_one _ _ _ _ (fun i => ?_) (fun i => rfl) j
  rw [val_main_call0_v11_apply, val_main_call0_v7_apply, val_main_call0_v10_apply, sides_index ind hind, val_main_call0_v6_apply,
    val_main_call0_c_2_apply, val_main_call0_v9_apply, val_main_call0_v8_apply, val_main_call0_c_1_apply]
  obtain ⟨p, hp, hx⟩ := hind (ix2 (i 0) (i 1))
  rw [hx]
  exact guard_word _ 16383 (by omega) (by omega)

/-- The sides at the given position. -/
theorem sides_pick (n : Fin 2) : val_main_v4 (F := Ideal) ab ind (ix3 b k n)
    = ab (ix4 b n ⟨(ind (ix2 b k)).toNat / 128 % 128, Nat.mod_lt _ (by decide)⟩ ⟨(ind (ix2 b k)).toNat % 128, Nat.mod_lt _ (by decide)⟩) := by
  rw [val_main_v4_apply, sides_guard ind hind]
  refine (gather_pairs (val_main_v1 (F := Ideal) ab) (val_main_call0_v5 (F := Ideal) ind) b k n).trans ?_
  rw [sides_flat]
  obtain ⟨p, hp, hx⟩ := hind (ix2 b k)
  have e : (val_main_call0_v5 (F := Ideal) ind (ix4 b k n 0)).toInt.toNat = p := by
    rw [sides_index ind hind]
    show (ind (ix2 b k)).toInt.toNat = p
    rw [hx, word_toNat _ (by omega)]
  have e' : (ind (ix2 b k)).toNat = p := by
    rw [hx, BitVec.toNat_ofNat, Nat.mod_eq_of_lt (by omega)]
  refine congrArg ab ?_
  funext a
  match a with
  | ⟨0, _⟩ => rfl
  | ⟨1, _⟩ => rfl
  | ⟨2, _⟩ =>
    refine Fin.ext ?_
    show min (val_main_call0_v5 (F := Ideal) ind (ix4 b k n 0)).toInt.toNat 16383 / 128 = (ind (ix2 b k)).toNat / 128 % 128
    rw [e, e']; omega
  | ⟨3, _⟩ =>
    refine Fin.ext ?_
    show min (val_main_call0_v5 (F := Ideal) ind (ix4 b k n 0)).toInt.toNat 16383 % 128 = (ind (ix2 b k)).toNat % 128
    rw [e, e']; omega

/-- The wrapped index of the angle, at any position. -/
theorem angle_index (i : S32x100x1.Idx) : val_main_call1_v4 (F := Ideal) ind i = ind (ix2 (i 0) (i 1)) := by
  have e : val_main_v10 (F := Ideal) ind i = ind (ix2 (i 0) (i 1)) := by
    rw [val_main_v10_apply]
    refine congrArg ind ?_
    funext a
    match a with
    | ⟨0, _⟩ => rfl
    | ⟨1, _⟩ => rfl
  rw [val_main_call1_v4_apply, val_main_call1_v1_apply, val_main_call1_v3_apply, e,
    val_main_call1_v0_apply, val_main_call1_c_apply]
  obtain ⟨p, hp, hx⟩ := hind (ix2 (i 0) (i 1))
  rw [hx]
  exact wrap_word _ (by omega) _

/-- Every index of the angle is in range. -/
theorem angle_guard (j : S32x100.Idx) : val_main_call1_v11 (F := Ideal) ind j = 1#1 := by
  refine reduce_and_one _ _ _ _ (fun i => ?_) (fun i => rfl) j
  rw [val_main_call1_v10_apply, val_main_call1_v6_apply, val_main_call1_v9_apply, angle_index ind hind, val_main_call1_v5_apply,
    val_main_call1_c_2_apply, val_main_call1_v8_apply, val_main_call1_v7_apply, val_main_call1_c_1_apply]
  obtain ⟨p, hp, hx⟩ := hind (ix2 (i 0) (i 1))
  rw [hx]
  exact guard_word _ 16383 (by omega) (by omega)

/-- The angle at the given position. -/
theorem angle_pick : val_main_v11 (F := Ideal) ang ind (ix3 b k 0)
    = ang (ix4 b 0 ⟨(ind (ix2 b k)).toNat / 128 % 128, Nat.mod_lt _ (by decide)⟩ ⟨(ind (ix2 b k)).toNat % 128, Nat.mod_lt _ (by decide)⟩) := by
  rw [val_main_v11_apply, val_main_call1_v13_apply, angle_guard ind hind]
  refine (gather_single (val_main_v9 (F := Ideal) ang) (val_main_call1_v4 (F := Ideal) ind) b k).trans ?_
  rw [angle_flat]
  obtain ⟨p, hp, hx⟩ := hind (ix2 b k)
  have e : (val_main_call1_v4 (F := Ideal) ind (ix3 b k 0)).toInt.toNat = p := by
    rw [angle_index ind hind]
    show (ind (ix2 b k)).toInt.toNat = p
    rw [hx, word_toNat _ (by omega)]
  have e' : (ind (ix2 b k)).toNat = p := by
    rw [hx, BitVec.toNat_ofNat, Nat.mod_eq_of_lt (by omega)]
  refine congrArg ang ?_
  funext a
  match a with
  | ⟨0, _⟩ => rfl
  | ⟨1, _⟩ => rfl
  | ⟨2, _⟩ =>
    refine Fin.ext ?_
    show min (val_main_call1_v4 (F := Ideal) ind (ix3 b k 0)).toInt.toNat 16383 / 128 = (ind (ix2 b k)).toNat / 128 % 128
    rw [e, e']; omega
  | ⟨3, _⟩ =>
    refine Fin.ext ?_
    show min (val_main_call1_v4 (F := Ideal) ind (ix3 b k 0)).toInt.toNat 16383 % 128 = (ind (ix2 b k)).toNat % 128
    rw [e, e']; omega

end Picked

/-! ### The boxes -/

/-- The mask as a number, for the centres and the sides. -/
theorem mask_two (mask : IVec S32x100 32) (b : Fin 32) (k : Fin 100) (n : Fin 2) :
    val_main_v7 (F := Ideal) mask (ix3 b k n) = (((mask (ix2 b k)).toInt : ℝ) : EReal) := by
  rw [val_main_v7_apply, val_main_v6_apply, val_main_v5_apply]
  refine congrArg (fun i => (((mask i).toInt : ℝ) : EReal)) ?_
  funext a
  match a with
  | ⟨0, _⟩ => rfl
  | ⟨1, _⟩ => rfl

/-- The mask as a number, for the angle. -/
theorem mask_one (mask : IVec S32x100 32) (b : Fin 32) (k : Fin 100) :
    val_main_v12 (F := Ideal) mask (ix3 b k 0) = (((mask (ix2 b k)).toInt : ℝ) : EReal) := by
  rw [val_main_v12_apply, val_main_v5_apply]
  refine congrArg (fun i => (((mask i).toInt : ℝ) : EReal)) ?_
  funext a
  match a with
  | ⟨0, _⟩ => rfl
  | ⟨1, _⟩ => rfl

section FiveCat

variable (p q : FVec Ideal S32x100x2 .f32) (r : FVec Ideal S32x100x1 .f32) (b : Fin 32) (k : Fin 100)

/-- The three pieces of a box. -/
abbrev fiveParts : List ((s : Shape) × (s.Idx → EReal)) := [⟨S32x100x2, p⟩, ⟨S32x100x2, q⟩, ⟨S32x100x1, r⟩]

/-- A box's five numbers side by side. -/
abbrev fiveCat : FVec Ideal S32x100x5 .f32 :=
  concatenate S32x100x5 2 (fiveParts p q r) concatenates_S32x100x2_S32x100x2_S32x100x1_S32x100x5_d2

/-- The first two numbers are the first piece. -/
theorem five_first (n : Fin 2) : fiveCat p q r (ix3 b k ⟨n.val, by omega⟩) = p (ix3 b k n) :=
  concatenate_apply_piece (t := S32x100x5) 2 (fiveParts p q r) concatenates_S32x100x2_S32x100x2_S32x100x1_S32x100x5_d2 _ 0
    (show 0 < 3 from by decide) S32x100x2 p rfl rfl 0 rfl (ix3 b k n) (fun a ha => by
      match a with
      | ⟨0, _⟩ => rfl
      | ⟨1, _⟩ => rfl
      | ⟨2, _⟩ => exact absurd rfl ha) (Nat.zero_add _)

/-- The next two numbers are the second piece. -/
theorem five_second (n : Fin 2) : fiveCat p q r (ix3 b k ⟨2 + n.val, by omega⟩) = q (ix3 b k n) :=
  concatenate_apply_piece (t := S32x100x5) 2 (fiveParts p q r) concatenates_S32x100x2_S32x100x2_S32x100x1_S32x100x5_d2 _ 1
    (show 1 < 3 from by decide) S32x100x2 q rfl rfl 2 rfl (ix3 b k n) (fun a ha => by
      match a with
      | ⟨0, _⟩ => rfl
      | ⟨1, _⟩ => rfl
      | ⟨2, _⟩ => exact absurd rfl ha) rfl

/-- The last number is the third piece. -/
theorem five_third : fiveCat p q r (ix3 b k 4) = r (ix3 b k 0) :=
  concatenate_apply_piece (t := S32x100x5) 2 (fiveParts p q r) concatenates_S32x100x2_S32x100x2_S32x100x1_S32x100x5_d2 _ 2
    (show 2 < 3 from by decide) S32x100x1 r rfl rfl 4 rfl (ix3 b k 0) (fun a ha => by
      match a with
      | ⟨0, _⟩ => rfl
      | ⟨1, _⟩ => rfl
      | ⟨2, _⟩ => exact absurd rfl ha) rfl

/-- A box read number by number. -/
theorem five_all (v : Fin 5 → EReal) (h0 : p (ix3 b k 0) = v 0) (h1 : p (ix3 b k 1) = v 1) (h2 : q (ix3 b k 0) = v 2)
    (h3 : q (ix3 b k 1) = v 3) (h4 : r (ix3 b k 0) = v 4) (n : Fin 5) : fiveCat p q r (ix3 b k n) = v n := by
  match n with
  | ⟨0, _⟩ => exact (five_first p q r b k 0).trans h0
  | ⟨1, _⟩ => exact (five_first p q r b k 1).trans h1
  | ⟨2, _⟩ => exact (five_second p q r b k 0).trans h2
  | ⟨3, _⟩ => exact (five_second p q r b k 1).trans h3
  | ⟨4, _⟩ => exact (five_third p q r b k).trans h4

end FiveCat

variable (A : Input) (hA : A.Tame) (b : Fin 32) (k : Fin 100)

include hA in
/-- The predicted boxes of the reference. -/
theorem pred_entry (n : Fin 5) : val_main_v34 (F := Ideal) A.ab A.ang A.hm A.ind A.mask (ix3 b k n) = A.pred b k n := by
  refine five_all _ _ _ b k (A.pred b k) ?_ ?_ ?_ ?_ ?_ n
  · rw [val_main_v27_apply, centre_row, mask_two]
    rfl
  · rw [val_main_v27_apply, centre_col, mask_two]
    rfl
  · rw [val_main_v30_apply, val_main_v29_apply, sides_pick A.ab A.ind hA.ind, mask_two, val_main_v28_apply, val_main_cst_apply]
    rfl
  · rw [val_main_v30_apply, val_main_v29_apply, sides_pick A.ab A.ind hA.ind, mask_two, val_main_v28_apply, val_main_cst_apply]
    rfl
  · rw [val_main_v33_apply, val_main_v32_apply, angle_pick A.ang A.ind hA.ind, mask_one, val_main_v31_apply, val_main_cst_4_apply]
    rfl

/-- The target boxes of the reference. -/
theorem target_entry (n : Fin 5) : val_main_v56 (F := Ideal) A.tab A.tang A.thm A.mask (ix3 b k n) = A.target b k n := by
  refine five_all _ _ _ b k (A.target b k) ?_ ?_ ?_ ?_ ?_ n
  · rw [val_main_v49_apply, centre_target, centre_row, mask_two]
    rfl
  · rw [val_main_v49_apply, centre_target, centre_col, mask_two]
    rfl
  · rw [val_main_v52_apply, val_main_v51_apply, mask_two, val_main_v50_apply, val_main_cst_12_apply]
    rfl
  · rw [val_main_v52_apply, val_main_v51_apply, mask_two, val_main_v50_apply, val_main_cst_12_apply]
    rfl
  · rw [val_main_v55_apply, val_main_v54_apply, mask_one, val_main_v53_apply, val_main_cst_13_apply]
    rfl

end Cert.Proof.RI

end
-- ==== Proof.RPred.lean ====
module

public import proofs.«01_k».proof.Proof.RBox

@[expose] public section

set_option maxRecDepth 65536

noncomputable section

/-! # The matrices of the predicted boxes -/

namespace Cert.Proof.RI

open Cert.ReferenceIdeal Cert.ReferenceIdeal.Gen Cert.ReferenceIdeal.Read
open Idealize.ShloMosaic Idealize.ShloMosaic.TcCoe Idealize.ShloMosaic.ValueIdx
open scoped BigOperators

/-- The row of the flattened boxes that holds box `k` of batch `b`. -/
def flat (b : Fin 32) (k : Fin 100) : Fin 3200 := ⟨b.val * 100 + k.val, by omega⟩

/-- Entries of the two-by-two identity matrix. -/
theorem eye_word (m n : Fin 2) :
    (((IntOp.cmpi .eq (IntOp.addi (BitVec.ofNat 32 m.val) 0#32) (BitVec.ofNat 32 n.val)).toNat : ℝ) : EReal) = eye m n := by
  have e : ∀ m n : Fin 2, (IntOp.cmpi .eq (IntOp.addi (BitVec.ofNat 32 m.val) 0#32) (BitVec.ofNat 32 n.val)).toNat = if m = n then 1 else 0 := by decide
  rw [e m n, eye]
  split <;> simp

section FourCat

variable (x0 x1 x2 x3 : FVec Ideal S3200x1 .f32) (i : Fin 3200)

/-- Four columns. -/
abbrev fourParts : List ((s : Shape) × (s.Idx → EReal)) := [⟨S3200x1, x0⟩, ⟨S3200x1, x1⟩, ⟨S3200x1, x2⟩, ⟨S3200x1, x3⟩]

/-- Four columns side by side. -/
abbrev fourCat : FVec Ideal S3200x4 .f32 :=
  concatenate S3200x4 1 (fourParts x0 x1 x2 x3) concatenates_S3200x1_S3200x1_S3200x1_S3200x1_S3200x4_d1

/-- Column `n` is its piece `n`. -/
theorem four_piece (n : ℕ) (hn : n < 4) (x : FVec Ideal S3200x1 .f32) (hx : (fourParts x0 x1 x2 x3)[n]'hn = ⟨S3200x1, x⟩)
    (hpre : ((((fourParts x0 x1 x2 x3).take n).map (·.1)).map fun s => if h : s.rank = S3200x4.rank then s.size ((1 : Fin 2).cast h.symm) else 0).sum = n) :
    fourCat x0 x1 x2 x3 (ix2 i ⟨n, hn⟩) = x (ix2 i 0) :=
  concatenate_apply_piece (t := S3200x4) 1 (fourParts x0 x1 x2 x3) concatenates_S3200x1_S3200x1_S3200x1_S3200x1_S3200x4_d1 _ n hn
    S3200x1 x hx rfl n hpre (ix2 i 0) (fun a ha => by
      match a with
      | ⟨0, _⟩ => rfl
      | ⟨1, _⟩ => exact absurd rfl ha) rfl

end FourCat

/-- The places of the diagonal entries, as words. -/
theorem diag_word (k : Fin 2) (c : Fin 2) : val_main_call14_v14 (F := Ideal) (ix2 k c) = BitVec.ofNat 32 k.val := by
  have hk : k.val < 2 := k.isLt
  have w : ∀ i : S2.Idx, val_main_call14_v6 (F := Ideal) i = BitVec.ofNat 32 (i 0).val := fun i => by
    have hi : (i 0).val < 2 := (i 0).isLt
    exact wrap_word (i 0).val (by omega) 2#32
  have h12 : val_main_call14_v12 (F := Ideal) (ix2 k 0) = BitVec.ofNat 32 k.val := (val_main_call14_v12_apply (F := Ideal) (ix2 k 0)).trans (w _)
  have h13 : val_main_call14_v13 (F := Ideal) (ix2 k 0) = BitVec.ofNat 32 k.val := (val_main_call14_v13_apply (F := Ideal) (ix2 k 0)).trans (w _)
  match c with
  | ⟨0, _⟩ =>
    exact (concatenate_apply_piece (t := S2x2) 1
      [⟨S2x1, val_main_call14_v12 (F := Ideal)⟩, ⟨S2x1, val_main_call14_v13 (F := Ideal)⟩]
      concatenates_S2x1_S2x1_S2x2_d1 _ 0 (show 0 < 2 from by decide) S2x1 (val_main_call14_v12 (F := Ideal)) rfl rfl 0 rfl
      (ix2 k 0) (fun a ha => by
        match a with
        | ⟨0, _⟩ => rfl
        | ⟨1, _⟩ => exact absurd rfl ha) rfl).trans h12
  | ⟨1, _⟩ =>
    exact (concatenate_apply_piece (t := S2x2) 1
      [⟨S2x1, val_main_call14_v12 (F := Ideal)⟩, ⟨S2x1, val_main_call14_v13 (F := Ideal)⟩]
      concatenates_S2x1_S2x1_S2x2_d1 _ 1 (show 1 < 2 from by decide) S2x1 (val_main_call14_v13 (F := Ideal)) rfl rfl 1 rfl
      (ix2 k 0) (fun a ha => by
        match a with
        | ⟨0, _⟩ => rfl
        | ⟨1, _⟩ => exact absurd rfl ha) rfl).trans h13

/-- Reading the diagonal of the matrices. -/
theorem diag_pick (x : FVec Ideal S3200x2x2 .f32) (i : Fin 3200) (k : Fin 2) :
    Host.gather gather_S3200x2x2_S2x2_S3200x2_0_12_n_n_12_1_320011 x (val_main_call14_v14 (F := Ideal)) (ix2 i k) = x (ix3 i k k) := by
  have hk : k.val < 2 := k.isLt
  refine (gather_entries x (val_main_call14_v14 (F := Ideal)) i k).trans (congrArg x ?_)
  have e : ∀ c : Fin 2, min (val_main_call14_v14 (F := Ideal) (ix2 k c)).toInt.toNat 1 = k.val := fun c => by
    rw [diag_word, word_toNat _ (by omega)]; omega
  funext a
  match a with
  | ⟨0, _⟩ => rfl
  | ⟨1, _⟩ => exact Fin.ext (e 0)
  | ⟨2, _⟩ => exact Fin.ext (e 1)

/-! ## The predicted boxes -/

section Predicted

variable (x0 : FVec Ideal S32x2x128x128 .f32) (x1 x2 : FVec Ideal S32x1x128x128 .f32) (x6 x7 : IVec S32x100 32)
variable (b : Fin 32) (k : Fin 100) (p : Fin 5 → EReal)
variable (hp : ∀ n : Fin 5, val_main_v34 (F := Ideal) x0 x1 x2 x6 x7 (ix3 b k n) = p n)

include hp

/-- The flattened boxes. -/
theorem v57_at (n : Fin 5) : val_main_v57 (F := Ideal) x0 x1 x2 x6 x7 (ix2 (flat b k) n) = p n := by
  rw [val_main_v57_apply, ← hp n]
  refine congrArg (val_main_v34 (F := Ideal) x0 x1 x2 x6 x7) ?_
  funext a
  match a with
  | ⟨0, _⟩ => refine Fin.ext ?_; show ((b.val * 100 + k.val) * 5 + n.val) / 500 = b.val; omega
  | ⟨1, _⟩ => refine Fin.ext ?_; show ((b.val * 100 + k.val) * 5 + n.val) / 5 % 100 = k.val; omega
  | ⟨2, _⟩ => refine Fin.ext ?_; show ((b.val * 100 + k.val) * 5 + n.val) % 5 = n.val; omega

/-- The centres. -/
theorem v58_at (n : Fin 2) : val_main_v58 (F := Ideal) x0 x1 x2 x6 x7 (ix2 (flat b k) n) = ![p 0, p 1] n := by
  have e : val_main_v58 (F := Ideal) x0 x1 x2 x6 x7 (ix2 (flat b k) n) = val_main_v57 (F := Ideal) x0 x1 x2 x6 x7 (ix2 (flat b k) ⟨n.val, by omega⟩) := by
    rw [val_main_v58_apply]
    refine congrArg (val_main_v57 (F := Ideal) x0 x1 x2 x6 x7) ?_
    funext a
    match a with
    | ⟨0, _⟩ => rfl
    | ⟨1, _⟩ => rfl
  rw [e, v57_at x0 x1 x2 x6 x7 b k p hp]
  match n with
  | ⟨0, _⟩ => rfl
  | ⟨1, _⟩ => rfl

/-- The clipped sides. -/
theorem v60_at (n : Fin 2) : val_main_v60 (F := Ideal) x0 x1 x2 x6 x7 (ix2 (flat b k) n) = min kHi (max kLo (![p 2, p 3] n)) := by
  have e : val_main_v59 (F := Ideal) x0 x1 x2 x6 x7 (ix2 (flat b k) n) = val_main_v57 (F := Ideal) x0 x1 x2 x6 x7 (ix2 (flat b k) ⟨2 + n.val, by omega⟩) := by
    rw [val_main_v59_apply]
    refine congrArg (val_main_v57 (F := Ideal) x0 x1 x2 x6 x7) ?_
    funext a
    match a with
    | ⟨0, _⟩ => rfl
    | ⟨1, _⟩ => rfl
  have e' : val_main_v59 (F := Ideal) x0 x1 x2 x6 x7 (ix2 (flat b k) n) = ![p 2, p 3] n := by
    rw [e, v57_at x0 x1 x2 x6 x7 b k p hp]
    match n with
    | ⟨0, _⟩ => rfl
    | ⟨1, _⟩ => rfl
  rw [val_main_v60_apply, val_main_call12_v2_apply, e', val_main_call12_v1_apply, val_main_call12_v4_apply]
  rfl

/-- The angle in radians. -/
theorem v64_at : val_main_v64 (F := Ideal) x0 x1 x2 x6 x7 (ix1 (flat b k)) = p 4 * kDeg := by
  have e : val_main_v62 (F := Ideal) x0 x1 x2 x6 x7 (ix1 (flat b k)) = p 4 := by
    rw [val_main_v62_apply, val_main_v61_apply, ← v57_at x0 x1 x2 x6 x7 b k p hp 4]
    refine congrArg (val_main_v57 (F := Ideal) x0 x1 x2 x6 x7) ?_
    funext a
    match a with
    | ⟨0, _⟩ => refine Fin.ext ?_; show (flat b k).val / 1 = (flat b k).val; omega
    | ⟨1, _⟩ => rfl
  rw [val_main_v64_apply, e, val_main_v63_apply]
  rfl

/-- The cosine. -/
theorem v65_at : val_main_v65 (F := Ideal) x0 x1 x2 x6 x7 (ix1 (flat b k)) = Ideal.cos (p 4 * kDeg) := by
  rw [val_main_v65_apply, v64_at x0 x1 x2 x6 x7 b k p hp]
  rfl

/-- The sine. -/
theorem v66_at : val_main_v66 (F := Ideal) x0 x1 x2 x6 x7 (ix1 (flat b k)) = Ideal.sin (p 4 * kDeg) := by
  rw [val_main_v66_apply, v64_at x0 x1 x2 x6 x7 b k p hp]
  rfl

/-- The rotation matrix. -/
theorem v73_at (m n : Fin 2) : val_main_v73 (F := Ideal) x0 x1 x2 x6 x7 (ix3 (flat b k) m n) = rRot p m n := by
  have hm : m.val < 2 := m.isLt
  have hn : n.val < 2 := n.isLt
  have e : val_main_v73 (F := Ideal) x0 x1 x2 x6 x7 (ix3 (flat b k) m n)
      = val_main_v72 (F := Ideal) x0 x1 x2 x6 x7 (ix2 (flat b k) ⟨m.val * 2 + n.val, by omega⟩) := by
    rw [val_main_v73_apply]
    refine congrArg (val_main_v72 (F := Ideal) x0 x1 x2 x6 x7) ?_
    funext a
    match a with
    | ⟨0, _⟩ => refine Fin.ext ?_; show (((flat b k).val * 2 + m.val) * 2 + n.val) / 4 = (flat b k).val; omega
    | ⟨1, _⟩ => refine Fin.ext ?_; show (((flat b k).val * 2 + m.val) * 2 + n.val) % 4 = m.val * 2 + n.val; omega
  have hc : val_main_v68 (F := Ideal) x0 x1 x2 x6 x7 (ix2 (flat b k) 0) = Ideal.cos (p 4 * kDeg) := by
    rw [val_main_v68_apply, ← v65_at x0 x1 x2 x6 x7 b k p hp]
    refine congrArg (val_main_v65 (F := Ideal) x0 x1 x2 x6 x7) ?_
    funext a
    match a with
    | ⟨0, _⟩ => rfl
  have hs : val_main_v70 (F := Ideal) x0 x1 x2 x6 x7 (ix2 (flat b k) 0) = Ideal.sin (p 4 * kDeg) := by
    rw [val_main_v70_apply, ← v66_at x0 x1 x2 x6 x7 b k p hp]
    refine congrArg (val_main_v66 (F := Ideal) x0 x1 x2 x6 x7) ?_
    funext a
    match a with
    | ⟨0, _⟩ => rfl
  have hns : val_main_v69 (F := Ideal) x0 x1 x2 x6 x7 (ix2 (flat b k) 0) = -Ideal.sin (p 4 * kDeg) := by
    rw [val_main_v69_apply, val_main_v67_apply, ← v66_at x0 x1 x2 x6 x7 b k p hp]
    refine congrArg (fun i => -val_main_v66 (F := Ideal) x0 x1 x2 x6 x7 i) ?_
    funext a
    match a with
    | ⟨0, _⟩ => rfl
  rw [e]
  match m, n, hm, hn with
  | ⟨0, _⟩, ⟨0, _⟩, _, _ => exact (four_piece _ _ _ _ (flat b k) 0 (by decide) (val_main_v68 (F := Ideal) x0 x1 x2 x6 x7) rfl rfl).trans hc
  | ⟨0, _⟩, ⟨1, _⟩, _, _ => exact (four_piece _ _ _ _ (flat b k) 1 (by decide) (val_main_v69 (F := Ideal) x0 x1 x2 x6 x7) rfl rfl).trans hns
  | ⟨1, _⟩, ⟨0, _⟩, _, _ => exact (four_piece _ _ _ _ (flat b k) 2 (by decide) (val_main_v70 (F := Ideal) x0 x1 x2 x6 x7) rfl rfl).trans hs
  | ⟨1, _⟩, ⟨1, _⟩, _, _ => exact (four_piece _ _ _ _ (flat b k) 3 (by decide) (val_main_v71 (F := Ideal) x0 x1 x2 x6 x7) rfl rfl).trans hc

/-- The matrix of half sides. -/
theorem v86_at (m n : Fin 2) : val_main_v86 (F := Ideal) x0 x1 x2 x6 x7 (ix3 (flat b k) m n) = rDiag p m n := by
  have hs : val_main_v82 (F := Ideal) x0 x1 x2 x6 x7 (ix3 (flat b k) m n) = min kHi (max kLo (![p 2, p 3] m)) := by
    rw [val_main_v82_apply, val_main_v74_apply, ← v60_at x0 x1 x2 x6 x7 b k p hp]
    refine congrArg (val_main_v60 (F := Ideal) x0 x1 x2 x6 x7) ?_
    funext a
    match a with
    | ⟨0, _⟩ => rfl
    | ⟨1, _⟩ => rfl
  have he : val_main_v83 (F := Ideal) (ix3 (flat b k) m n) = eye m n := by
    rw [val_main_v83_apply, val_main_v81_apply]
    exact eye_word m n
  rw [val_main_v86_apply, val_main_v84_apply, hs, he, val_main_v85_apply]
  rfl

/-- The rotation times the squared half sides. -/
theorem v121_at (m n : Fin 2) : val_main_v121 (F := Ideal) x0 x1 x2 x6 x7 (ix3 (flat b k) m n)
    = ∑ l : Fin 2, rRot p m l * (rDiag p l n * rDiag p l n) := by
  rw [val_main_v121_apply]
  refine Finset.sum_congr rfl fun l _ => ?_
  have el : lidx_main_v121 (ix3 (flat b k) m n) l = ix3 (flat b k) m l := by
    funext a
    match a with
    | ⟨0, _⟩ => rfl
    | ⟨1, _⟩ => rfl
    | ⟨2, _⟩ => rfl
  have er : ridx_main_v121 (ix3 (flat b k) m n) l = ix3 (flat b k) l n := by
    funext a
    match a with
    | ⟨0, _⟩ => rfl
    | ⟨1, _⟩ => rfl
    | ⟨2, _⟩ => rfl
  rw [el, er, val_main_v120_apply, v73_at x0 x1 x2 x6 x7 b k p hp, v86_at x0 x1 x2 x6 x7 b k p hp]
  rfl

/-- The covariance matrix. -/
theorem v123_at (m n : Fin 2) : val_main_v123 (F := Ideal) x0 x1 x2 x6 x7 (ix3 (flat b k) m n) = rSig p m n := by
  rw [val_main_v123_apply]
  refine Finset.sum_congr rfl fun l _ => ?_
  have el : lidx_main_v123 (ix3 (flat b k) m n) l = ix3 (flat b k) m l := by
    funext a
    match a with
    | ⟨0, _⟩ => rfl
    | ⟨1, _⟩ => rfl
    | ⟨2, _⟩ => rfl
  have er : idx_main_v122 (ridx_main_v123 (ix3 (flat b k) m n) l) = ix3 (flat b k) n l := by
    funext a
    match a with
    | ⟨0, _⟩ => rfl
    | ⟨1, _⟩ => rfl
    | ⟨2, _⟩ => rfl
  rw [el, val_main_v122_apply, er, v121_at x0 x1 x2 x6 x7 b k p hp, v73_at x0 x1 x2 x6 x7 b k p hp]

/-- The half sides, off the diagonal of their matrix. -/
theorem v128_at (n : Fin 2) : val_main_v128 (F := Ideal) x0 x1 x2 x6 x7 (ix2 (flat b k) n) = rDiag p n n :=
  (diag_pick (val_main_v86 (F := Ideal) x0 x1 x2 x6 x7) (flat b k) n).trans (v86_at x0 x1 x2 x6 x7 b k p hp n n)

end Predicted

end Cert.Proof.RI

end
-- ==== Proof.RTarget.lean ====
module

public import proofs.«01_k».proof.Proof.RPred

@[expose] public section

set_option maxRecDepth 65536

noncomputable section

/-! # The matrices of the target boxes -/

namespace Cert.Proof.RI

open Cert.ReferenceIdeal Cert.ReferenceIdeal.Gen Cert.ReferenceIdeal.Read
open Idealize.ShloMosaic Idealize.ShloMosaic.TcCoe Idealize.ShloMosaic.ValueIdx
open scoped BigOperators

/-! ## The target boxes -/

section Target

variable (x3 : FVec Ideal S32x100x2 .f32) (x4 : FVec Ideal S32x100x1 .f32) (x5 : FVec Ideal S32x1x128x128 .f32) (x7 : IVec S32x100 32)
variable (b : Fin 32) (k : Fin 100) (p : Fin 5 → EReal)
variable (hp : ∀ n : Fin 5, val_main_v56 (F := Ideal) x3 x4 x5 x7 (ix3 b k n) = p n)

include hp

/-- The flattened boxes. -/
theorem v87_at (n : Fin 5) : val_main_v87 (F := Ideal) x3 x4 x5 x7 (ix2 (flat b k) n) = p n := by
  rw [val_main_v87_apply, ← hp n]
  refine congrArg (val_main_v56 (F := Ideal) x3 x4 x5 x7) ?_
  funext a
  match a with
  | ⟨0, _⟩ => refine Fin.ext ?_; show ((b.val * 100 + k.val) * 5 + n.val) / 500 = b.val; omega
  | ⟨1, _⟩ => refine Fin.ext ?_; show ((b.val * 100 + k.val) * 5 + n.val) / 5 % 100 = k.val; omega
  | ⟨2, _⟩ => refine Fin.ext ?_; show ((b.val * 100 + k.val) * 5 + n.val) % 5 = n.val; omega

/-- The centres. -/
theorem v88_at (n : Fin 2) : val_main_v88 (F := Ideal) x3 x4 x5 x7 (ix2 (flat b k) n) = ![p 0, p 1] n := by
  have e : val_main_v88 (F := Ideal) x3 x4 x5 x7 (ix2 (flat b k) n) = val_main_v87 (F := Ideal) x3 x4 x5 x7 (ix2 (flat b k) ⟨n.val, by omega⟩) := by
    rw [val_main_v88_apply]
    refine congrArg (val_main_v87 (F := Ideal) x3 x4 x5 x7) ?_
    funext a
    match a with
    | ⟨0, _⟩ => rfl
    | ⟨1, _⟩ => rfl
  rw [e, v87_at x3 x4 x5 x7 b k p hp]
  match n with
  | ⟨0, _⟩ => rfl
  | ⟨1, _⟩ => rfl

/-- The clipped sides. -/
theorem v90_at (n : Fin 2) : val_main_v90 (F := Ideal) x3 x4 x5 x7 (ix2 (flat b k) n) = min kHi (max kLo (![p 2, p 3] n)) := by
  have e : val_main_v89 (F := Ideal) x3 x4 x5 x7 (ix2 (flat b k) n) = val_main_v87 (F := Ideal) x3 x4 x5 x7 (ix2 (flat b k) ⟨2 + n.val, by omega⟩) := by
    rw [val_main_v89_apply]
    refine congrArg (val_main_v87 (F := Ideal) x3 x4 x5 x7) ?_
    funext a
    match a with
    | ⟨0, _⟩ => rfl
    | ⟨1, _⟩ => rfl
  have e' : val_main_v89 (F := Ideal) x3 x4 x5 x7 (ix2 (flat b k) n) = ![p 2, p 3] n := by
    rw [e, v87_at x3 x4 x5 x7 b k p hp]
    match n with
    | ⟨0, _⟩ => rfl
    | ⟨1, _⟩ => rfl
  rw [val_main_v90_apply, val_main_call13_v2_apply, e', val_main_call13_v1_apply, val_main_call13_v4_apply]
  rfl

/-- The angle in radians. -/
theorem v94_at : val_main_v94 (F := Ideal) x3 x4 x5 x7 (ix1 (flat b k)) = p 4 * kDeg := by
  have e : val_main_v92 (F := Ideal) x3 x4 x5 x7 (ix1 (flat b k)) = p 4 := by
    rw [val_main_v92_apply, val_main_v91_apply, ← v87_at x3 x4 x5 x7 b k p hp 4]
    refine congrArg (val_main_v87 (F := Ideal) x3 x4 x5 x7) ?_
    funext a
    match a with
    | ⟨0, _⟩ => refine Fin.ext ?_; show (flat b k).val / 1 = (flat b k).val; omega
    | ⟨1, _⟩ => rfl
  rw [val_main_v94_apply, e, val_main_v93_apply]
  rfl

/-- The cosine. -/
theorem v95_at : val_main_v95 (F := Ideal) x3 x4 x5 x7 (ix1 (flat b k)) = Ideal.cos (p 4 * kDeg) := by
  rw [val_main_v95_apply, v94_at x3 x4 x5 x7 b k p hp]
  rfl

/-- The sine. -/
theorem v96_at : val_main_v96 (F := Ideal) x3 x4 x5 x7 (ix1 (flat b k)) = Ideal.sin (p 4 * kDeg) := by
  rw [val_main_v96_apply, v94_at x3 x4 x5 x7 b k p hp]
  rfl

/-- The rotation matrix. -/
theorem v103_at (m n : Fin 2) : val_main_v103 (F := Ideal) x3 x4 x5 x7 (ix3 (flat b k) m n) = rRot p m n := by
  have hm : m.val < 2 := m.isLt
  have hn : n.val < 2 := n.isLt
  have e : val_main_v103 (F := Ideal) x3 x4 x5 x7 (ix3 (flat b k) m n)
      = val_main_v102 (F := Ideal) x3 x4 x5 x7 (ix2 (flat b k) ⟨m.val * 2 + n.val, by omega⟩) := by
    rw [val_main_v103_apply]
    refine congrArg (val_main_v102 (F := Ideal) x3 x4 x5 x7) ?_
    funext a
    match a with
    | ⟨0, _⟩ => refine Fin.ext ?_; show (((flat b k).val * 2 + m.val) * 2 + n.val) / 4 = (flat b k).val; omega
    | ⟨1, _⟩ => refine Fin.ext ?_; show (((flat b k).val * 2 + m.val) * 2 + n.val) % 4 = m.val * 2 + n.val; omega
  have hc : val_main_v98 (F := Ideal) x3 x4 x5 x7 (ix2 (flat b k) 0) = Ideal.cos (p 4 * kDeg) := by
    rw [val_main_v98_apply, ← v95_at x3 x4 x5 x7 b k p hp]
    refine congrArg (val_main_v95 (F := Ideal) x3 x4 x5 x7) ?_
    funext a
    match a with
    | ⟨0, _⟩ => rfl
  have hs : val_main_v100 (F := Ideal) x3 x4 x5 x7 (ix2 (flat b k) 0) = Ideal.sin (p 4 * kDeg) := by
    rw [val_main_v100_apply, ← v96_at x3 x4 x5 x7 b k p hp]
    refine congrArg (val_main_v96 (F := Ideal) x3 x4 x5 x7) ?_
    funext a
    match a with
    | ⟨0, _⟩ => rfl
  have hns : val_main_v99 (F := Ideal) x3 x4 x5 x7 (ix2 (flat b k) 0) = -Ideal.sin (p 4 * kDeg) := by
    rw [val_main_v99_apply, val_main_v97_apply, ← v96_at x3 x4 x5 x7 b k p hp]
    refine congrArg (fun i => -val_main_v96 (F := Ideal) x3 x4 x5 x7 i) ?_
    funext a
    match a with
    | ⟨0, _⟩ => rfl
  rw [e]
  match m, n, hm, hn with
  | ⟨0, _⟩, ⟨0, _⟩, _, _ => exact (four_piece _ _ _ _ (flat b k) 0 (by decide) (val_main_v98 (F := Ideal) x3 x4 x5 x7) rfl rfl).trans hc
  | ⟨0, _⟩, ⟨1, _⟩, _, _ => exact (four_piece _ _ _ _ (flat b k) 1 (by decide) (val_main_v99 (F := Ideal) x3 x4 x5 x7) rfl rfl).trans hns
  | ⟨1, _⟩, ⟨0, _⟩, _, _ => exact (four_piece _ _ _ _ (flat b k) 2 (by decide) (val_main_v100 (F := Ideal) x3 x4 x5 x7) rfl rfl).trans hs
  | ⟨1, _⟩, ⟨1, _⟩, _, _ => exact (four_piece _ _ _ _ (flat b k) 3 (by decide) (val_main_v101 (F := Ideal) x3 x4 x5 x7) rfl rfl).trans hc

/-- The matrix of half sides. -/
theorem v116_at (m n : Fin 2) : val_main_v116 (F := Ideal) x3 x4 x5 x7 (ix3 (flat b k) m n) = rDiag p m n := by
  have hs : val_main_v112 (F := Ideal) x3 x4 x5 x7 (ix3 (flat b k) m n) = min kHi (max kLo (![p 2, p 3] m)) := by
    rw [val_main_v112_apply, val_main_v104_apply, ← v90_at x3 x4 x5 x7 b k p hp]
    refine congrArg (val_main_v90 (F := Ideal) x3 x4 x5 x7) ?_
    funext a
    match a with
    | ⟨0, _⟩ => rfl
    | ⟨1, _⟩ => rfl
  have he : val_main_v113 (F := Ideal) (ix3 (flat b k) m n) = eye m n := by
    rw [val_main_v113_apply, val_main_v111_apply]
    exact eye_word m n
  rw [val_main_v116_apply, val_main_v114_apply, hs, he, val_main_v115_apply]
  rfl

/-- The rotation times the squared half sides. -/
theorem v125_at (m n : Fin 2) : val_main_v125 (F := Ideal) x3 x4 x5 x7 (ix3 (flat b k) m n)
    = ∑ l : Fin 2, rRot p m l * (rDiag p l n * rDiag p l n) := by
  rw [val_main_v125_apply]
  refine Finset.sum_congr rfl fun l _ => ?_
  have el : lidx_main_v125 (ix3 (flat b k) m n) l = ix3 (flat b k) m l := by
    funext a
    match a with
    | ⟨0, _⟩ => rfl
    | ⟨1, _⟩ => rfl
    | ⟨2, _⟩ => rfl
  have er : ridx_main_v125 (ix3 (flat b k) m n) l = ix3 (flat b k) l n := by
    funext a
    match a with
    | ⟨0, _⟩ => rfl
    | ⟨1, _⟩ => rfl
    | ⟨2, _⟩ => rfl
  rw [el, er, val_main_v124_apply, v103_at x3 x4 x5 x7 b k p hp, v116_at x3 x4 x5 x7 b k p hp]
  rfl

/-- The covariance matrix. -/
theorem v127_at (m n : Fin 2) : val_main_v127 (F := Ideal) x3 x4 x5 x7 (ix3 (flat b k) m n) = rSig p m n := by
  rw [val_main_v127_apply]
  refine Finset.sum_congr rfl fun l _ => ?_
  have el : lidx_main_v127 (ix3 (flat b k) m n) l = ix3 (flat b k) m l := by
    funext a
    match a with
    | ⟨0, _⟩ => rfl
    | ⟨1, _⟩ => rfl
    | ⟨2, _⟩ => rfl
  have er : idx_main_v126 (ridx_main_v127 (ix3 (flat b k) m n) l) = ix3 (flat b k) n l := by
    funext a
    match a with
    | ⟨0, _⟩ => rfl
    | ⟨1, _⟩ => rfl
    | ⟨2, _⟩ => rfl
  rw [el, val_main_v126_apply, er, v125_at x3 x4 x5 x7 b k p hp, v103_at x3 x4 x5 x7 b k p hp]

/-- The half sides, off the diagonal of their matrix. -/
theorem v129_at (n : Fin 2) : val_main_v129 (F := Ideal) x3 x4 x5 x7 (ix2 (flat b k) n) = rDiag p n n :=
  (diag_pick (val_main_v116 (F := Ideal) x3 x4 x5 x7) (flat b k) n).trans (v116_at x3 x4 x5 x7 b k p hp n n)

end Target

end Cert.Proof.RI

end
-- ==== Proof.RLoss.lean ====
module

public import proofs.«01_k».proof.Proof.RTarget
public import proofs.«01_k».proof.Proof.RBox

@[expose] public section

set_option maxRecDepth 65536

noncomputable section

/-! # The mean loss of the reference -/

namespace Cert.Proof.RI

open Cert.ReferenceIdeal Cert.ReferenceIdeal.Gen Cert.ReferenceIdeal.Read
open Idealize.ShloMosaic Idealize.ShloMosaic.TcCoe Idealize.ShloMosaic.ValueIdx
open scoped BigOperators

section Pair

variable (x0 : FVec Ideal S32x2x128x128 .f32) (x1 x2 : FVec Ideal S32x1x128x128 .f32) (x3 : FVec Ideal S32x100x2 .f32)
  (x4 : FVec Ideal S32x100x1 .f32) (x5 : FVec Ideal S32x1x128x128 .f32) (x6 x7 : IVec S32x100 32)
variable (b : Fin 32) (k : Fin 100) (p t : Fin 5 → EReal)
variable (hp : ∀ n : Fin 5, val_main_v34 (F := Ideal) x0 x1 x2 x6 x7 (ix3 b k n) = p n)
variable (ht : ∀ n : Fin 5, val_main_v56 (F := Ideal) x3 x4 x5 x7 (ix3 b k n) = t n)

/-- The squared distance of the centres. -/
def rXy : EReal := kZero + ∑ n : Fin 2, (![p 0, p 1] n - ![t 0, t 1] n) * (![p 0, p 1] n - ![t 0, t 1] n)

/-- The sum of the squared half sides. -/
def rWhr : EReal := (kZero + ∑ n : Fin 2, rDiag p n n * rDiag p n n) + (kZero + ∑ n : Fin 2, rDiag t n n * rDiag t n n)

/-- The trace of the product of the covariance matrices. -/
def rTr : EReal := kZero + ∑ m : Fin 2, ∑ n : Fin 2, rSig p m n * rSig t n m

/-- The product of the determinants' roots. -/
def rDet : EReal := (rDiag p 0 0 * rDiag p 1 1) * (rDiag t 0 0 * rDiag t 1 1)

include hp ht

/-- The squared distance of the centres. -/
theorem v119_at : val_main_v119 (F := Ideal) x0 x1 x2 x3 x4 x5 x6 x7 (ix1 (flat b k)) = rXy p t := by
  rw [val_main_v119_apply]
  refine congrArg (kZero + ·) (Finset.sum_congr rfl fun n _ => ?_)
  have e : idx_main_v119 (ix1 (flat b k)) n = ix2 (flat b k) n := by
    funext a
    match a with
    | ⟨0, _⟩ => rfl
    | ⟨1, _⟩ => rfl
  rw [e, val_main_v118_apply, val_main_v117_apply, v58_at x0 x1 x2 x6 x7 b k p hp, v88_at x3 x4 x5 x7 b k t ht]
  rfl

/-- The sum of the squared half sides. -/
theorem v134_at : val_main_v134 (F := Ideal) x0 x1 x2 x3 x4 x5 x6 x7 (ix1 (flat b k)) = rWhr p t := by
  have h1 : val_main_v131 (F := Ideal) x0 x1 x2 x6 x7 (ix1 (flat b k)) = kZero + ∑ n : Fin 2, rDiag p n n * rDiag p n n := by
    rw [val_main_v131_apply]
    refine congrArg (kZero + ·) (Finset.sum_congr rfl fun n _ => ?_)
    have e : idx_main_v131 (ix1 (flat b k)) n = ix2 (flat b k) n := by
      funext a
      match a with
      | ⟨0, _⟩ => rfl
      | ⟨1, _⟩ => rfl
    rw [e, val_main_v130_apply, v128_at x0 x1 x2 x6 x7 b k p hp]
    rfl
  have h2 : val_main_v133 (F := Ideal) x3 x4 x5 x7 (ix1 (flat b k)) = kZero + ∑ n : Fin 2, rDiag t n n * rDiag t n n := by
    rw [val_main_v133_apply]
    refine congrArg (kZero + ·) (Finset.sum_congr rfl fun n _ => ?_)
    have e : idx_main_v133 (ix1 (flat b k)) n = ix2 (flat b k) n := by
      funext a
      match a with
      | ⟨0, _⟩ => rfl
      | ⟨1, _⟩ => rfl
    rw [e, val_main_v132_apply, v129_at x3 x4 x5 x7 b k t ht]
    rfl
  rw [val_main_v134_apply, h1, h2]
  rfl

/-- The trace of the product of the covariance matrices. -/
theorem v137_at : val_main_v137 (F := Ideal) x0 x1 x2 x3 x4 x5 x6 x7 (ix1 (flat b k)) = rTr p t := by
  rw [val_main_v137_apply]
  refine congrArg (kZero + ·) (Finset.sum_congr rfl fun n _ => ?_)
  have e : idx_main_v137 (ix1 (flat b k)) n = ix2 (flat b k) n := by
    funext a
    match a with
    | ⟨0, _⟩ => rfl
    | ⟨1, _⟩ => rfl
  rw [e]
  refine (diag_pick (val_main_v135 (F := Ideal) x0 x1 x2 x3 x4 x5 x6 x7) (flat b k) n).trans ?_
  rw [val_main_v135_apply]
  refine Finset.sum_congr rfl fun l _ => ?_
  have el : lidx_main_v135 (ix3 (flat b k) n n) l = ix3 (flat b k) n l := by
    funext a
    match a with
    | ⟨0, _⟩ => rfl
    | ⟨1, _⟩ => rfl
    | ⟨2, _⟩ => rfl
  have er : ridx_main_v135 (ix3 (flat b k) n n) l = ix3 (flat b k) l n := by
    funext a
    match a with
    | ⟨0, _⟩ => rfl
    | ⟨1, _⟩ => rfl
    | ⟨2, _⟩ => rfl
  rw [el, er, v123_at x0 x1 x2 x6 x7 b k p hp, v127_at x3 x4 x5 x7 b k t ht]

/-- The product of the determinants' roots. -/
theorem v148_at : val_main_v148 (F := Ideal) x0 x1 x2 x3 x4 x5 x6 x7 (ix1 (flat b k)) = rDet p t := by
  have h1 : val_main_v139 (F := Ideal) x0 x1 x2 x6 x7 (ix1 (flat b k)) = rDiag p 0 0 := by
    rw [val_main_v139_apply, val_main_v138_apply, ← v128_at x0 x1 x2 x6 x7 b k p hp 0]
    refine congrArg (val_main_v128 (F := Ideal) x0 x1 x2 x6 x7) ?_
    funext a
    match a with
    | ⟨0, _⟩ => refine Fin.ext ?_; show (flat b k).val / 1 = (flat b k).val; omega
    | ⟨1, _⟩ => rfl
  have h2 : val_main_v141 (F := Ideal) x0 x1 x2 x6 x7 (ix1 (flat b k)) = rDiag p 1 1 := by
    rw [val_main_v141_apply, val_main_v140_apply, ← v128_at x0 x1 x2 x6 x7 b k p hp 1]
    refine congrArg (val_main_v128 (F := Ideal) x0 x1 x2 x6 x7) ?_
    funext a
    match a with
    | ⟨0, _⟩ => refine Fin.ext ?_; show (flat b k).val / 1 = (flat b k).val; omega
    | ⟨1, _⟩ => rfl
  have h3 : val_main_v144 (F := Ideal) x3 x4 x5 x7 (ix1 (flat b k)) = rDiag t 0 0 := by
    rw [val_main_v144_apply, val_main_v143_apply, ← v129_at x3 x4 x5 x7 b k t ht 0]
    refine congrArg (val_main_v129 (F := Ideal) x3 x4 x5 x7) ?_
    funext a
    match a with
    | ⟨0, _⟩ => refine Fin.ext ?_; show (flat b k).val / 1 = (flat b k).val; omega
    | ⟨1, _⟩ => rfl
  have h4 : val_main_v146 (F := Ideal) x3 x4 x5 x7 (ix1 (flat b k)) = rDiag t 1 1 := by
    rw [val_main_v146_apply, val_main_v145_apply, ← v129_at x3 x4 x5 x7 b k t ht 1]
    refine congrArg (val_main_v129 (F := Ideal) x3 x4 x5 x7) ?_
    funext a
    match a with
    | ⟨0, _⟩ => refine Fin.ext ?_; show (flat b k).val / 1 = (flat b k).val; omega
    | ⟨1, _⟩ => rfl
  rw [val_main_v148_apply, val_main_v142_apply, val_main_v147_apply, h1, h2, h3, h4]
  rfl

/-- Twice the root of the clipped trace, taken away. -/
theorem v155_at : val_main_v155 (F := Ideal) x0 x1 x2 x3 x4 x5 x6 x7 (ix1 (flat b k)) = kNegTwo * Ideal.sqrt (max kZero (rTr p t + kTwo * rDet p t)) := by
  rw [val_main_v155_apply, val_main_v154_apply, val_main_v153_apply, val_main_v152_apply, val_main_call17_v1_apply,
    val_main_v151_apply, val_main_v150_apply, val_main_v149_apply, v137_at x0 x1 x2 x3 x4 x5 x6 x7 b k p t hp ht, v148_at x0 x1 x2 x3 x4 x5 x6 x7 b k p t hp ht]
  rfl

/-- The loss of the pair of boxes. -/
theorem v161_at : val_main_v161 (F := Ideal) x0 x1 x2 x3 x4 x5 x6 x7 (ix1 (flat b k)) = rLoss p t := by
  rw [val_main_v161_apply, val_main_v160_apply, val_main_call18_v1_apply, val_main_v159_apply, val_main_v158_apply,
    val_main_v157_apply, val_main_v156_apply, v119_at x0 x1 x2 x3 x4 x5 x6 x7 b k p t hp ht, v134_at x0 x1 x2 x3 x4 x5 x6 x7 b k p t hp ht, v155_at x0 x1 x2 x3 x4 x5 x6 x7 b k p t hp ht]
  rfl

/-- What the pair of boxes adds to the sum. -/
theorem v167_at : val_main_v167 (F := Ideal) x0 x1 x2 x3 x4 x5 x6 x7 (ix1 (flat b k)) = lastStep (rLoss p t) := by
  rw [val_main_v167_apply, val_main_v166_apply, val_main_v165_apply, val_main_v164_apply, val_main_v163_apply,
    val_main_v162_apply, v161_at x0 x1 x2 x3 x4 x5 x6 x7 b k p t hp ht]
  rfl

end Pair

/-- Summing over all rows is summing over batches and boxes. -/
theorem sum_rows (f : S3200.Idx → EReal) : ∑ j : S3200.Idx, f j = ∑ b : Fin 32, ∑ k : Fin 100, f (ix1 (flat b k)) := by
  rw [← Fintype.sum_prod_type' (f := fun (b : Fin 32) (k : Fin 100) => f (ix1 (flat b k)))]
  refine (Fintype.sum_bijective (fun q : Fin 32 × Fin 100 => (ix1 (flat q.1 q.2) : S3200.Idx)) ⟨?_, ?_⟩ _ _ (fun q => rfl)).symm
  · intro q r h
    have h0 : q.1.val * 100 + q.2.val = r.1.val * 100 + r.2.val := congrArg (fun i : S3200.Idx => (i 0).val) h
    have hq : q.2.val < 100 := q.2.isLt
    have hr : r.2.val < 100 := r.2.isLt
    exact Prod.ext (Fin.ext (by omega)) (Fin.ext (by omega))
  · intro j
    have hj : (j 0).val < 3200 := (j 0).isLt
    refine ⟨(⟨(j 0).val / 100, by omega⟩, ⟨(j 0).val % 100, by omega⟩), ?_⟩
    funext a
    match a with
    | ⟨0, _⟩ =>
      refine Fin.ext ?_
      show (j 0).val / 100 * 100 + (j 0).val % 100 = (j 0).val
      omega

section Mean

variable (A : Input) (hA : A.Tame)

include hA

/-- The predicted and target angles are real numbers. -/
theorem angles_real (b : Fin 32) (k : Fin 100) : (∃ r : ℝ, A.pred b k 4 = r) ∧ ∃ r : ℝ, A.target b k 4 = r := by
  obtain ⟨n, hn⟩ := kNinety_real
  obtain ⟨g, hg⟩ := hA.ang (ix4 b 0 (A.row b k) (A.col b k))
  obtain ⟨g', hg'⟩ := hA.tang (ix3 b k 0)
  refine ⟨⟨(g - n) * ((A.mask (ix2 b k)).toInt : ℝ), ?_⟩, ⟨(g' - n) * ((A.mask (ix2 b k)).toInt : ℝ), ?_⟩⟩
  · show (A.ang (ix4 b 0 (A.row b k) (A.col b k)) - kNinety) * A.weight b k = _
    rw [hg, hn, Input.weight]
    norm_cast
  · show (A.tang (ix3 b k 0) - kNinety) * A.weight b k = _
    rw [hg', hn, Input.weight]
    norm_cast

/-- The reference's result. -/
theorem mean_value (i : S_.Idx) :
    val_main_v171 (F := Ideal) A.ab A.ang A.hm A.tab A.tang A.thm A.ind A.mask i = A.meanLoss := by
  have h1 : val_main_v168 (F := Ideal) A.ab A.ang A.hm A.tab A.tang A.thm A.ind A.mask i
      = ∑ b : Fin 32, ∑ k : Fin 100, lastStep (kLoss (A.pred b k) (A.target b k)) := by
    rw [val_main_v168_apply]
    refine (congrArg (· + _) (show val_main_cst_36 (F := Ideal) (Shape.Idx.first h_S_) = 0 from kZero_eq.trans EReal.coe_zero)).trans ?_
    refine (zero_add _).trans ((sum_rows _).trans ?_)
    refine Finset.sum_congr rfl fun b _ => Finset.sum_congr rfl fun k _ => ?_
    rw [v167_at A.ab A.ang A.hm A.tab A.tang A.thm A.ind A.mask b k (A.pred b k) (A.target b k)
      (pred_entry A hA b k) (target_entry A b k),
      kLoss_eq_rLoss _ _ (angles_real A hA b k).1 (angles_real A hA b k).2]
  have h2 : val_main_v169 (F := Ideal) A.mask i = ∑ b : Fin 32, ∑ k : Fin 100, A.weight b k := by
    rw [val_main_v169_apply]
    refine (congrArg (· + _) (show val_main_cst_37 (F := Ideal) (Shape.Idx.first h_S_) = 0 from kZero_eq.trans EReal.coe_zero)).trans ?_
    refine (zero_add _).trans ((sum_idx2 _).trans ?_)
    exact Finset.sum_congr rfl fun b _ => Finset.sum_congr rfl fun k _ => rfl
  rw [val_main_v171_apply, val_main_v170_apply, h1, h2]
  rfl

end Mean

end Cert.Proof.RI

end
-- ==== Proof.Value.lean ====
module

public import proofs.«01_k».proof.Proof.KGrid
public import proofs.«01_k».proof.Proof.FrameKI
public import proofs.«01_k».proof.Proof.RLoss
public import proofs.«01_k».proof.Proof.Gen.ReferenceIdeal.Run

@[expose] public section

set_option maxRecDepth 65536

noncomputable section

/-! # Both programs end at the mean loss -/

namespace Cert.Proof

open Idealize.ShloMosaic Idealize.SL.Sem Idealize.ShloMosaic.TcCoe

section Kernel

open Cert.KernelIdeal Cert.KernelIdeal.Gen

variable (m : (ℓ : Loc nD τ sig) → Buf (Elt Ideal) ℓ) (ρ : Dev nD → PrngReg)

/-- What the kernel leaves in its result. -/
def kernelValue (c : Dev nD) : Buf (Elt Ideal) ((c.tc : Thread nD τ).loc main_v24) := (Pipeline.afterTail₀ cfgs (KI.dats m) 0 (V0 m) [hostOps1]) c main_v24

/-- The kernel ends with its value, the arguments unchanged. -/
theorem kernel_run : θ_run defs (onTc (τ := τ) (main (F := Ideal))) ⟨m, fun _ => 0, ρ⟩ (fun r => ∀ c : Dev nD,
      r.2.mem ((c.tc : Thread nD τ).loc main_v24) = kernelValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨(h.1 c).2 main_v24 (Pipeline.mem_restRefs_of main_v24 (by decide) (by decide)), h.2.1 c⟩)
    (θ_run_and (KI.run_post m ρ) (KI.frame m ρ))

/-- The kernel's value is the mean loss. -/
theorem kernelValue_eq (c : Dev nD) (hA : (KI.input m c).Tame) : kernelValue m c = fun _ => (KI.input m c).meanLoss :=
  KI.tail_value m c hA

end Kernel

section Reference

open Cert.ReferenceIdeal Cert.ReferenceIdeal.Gen Cert.ReferenceIdeal.Read

variable (m : (ℓ : Loc nD τ sig) → Buf (Elt Ideal) ℓ) (ρ : Dev nD → PrngReg)

/-- The reference's arguments. -/
def refInput (c : Dev nD) : Input where
  ab := m ((c.tc : Thread nD τ).loc main_arg0)
  ang := m ((c.tc : Thread nD τ).loc main_arg1)
  hm := m ((c.tc : Thread nD τ).loc main_arg2)
  tab := m ((c.tc : Thread nD τ).loc main_arg3)
  tang := m ((c.tc : Thread nD τ).loc main_arg4)
  thm := m ((c.tc : Thread nD τ).loc main_arg5)
  ind := m ((c.tc : Thread nD τ).loc main_arg6)
  mask := m ((c.tc : Thread nD τ).loc main_arg7)

/-- The reference ends with the mean loss, the arguments unchanged. -/
theorem reference_run (hA : ∀ c, (refInput m c).Tame) :
    θ_run defs (onTc (τ := τ) (main (F := Ideal))) ⟨m, fun _ => 0, ρ⟩ (fun r => ∀ c : Dev nD,
      r.2.mem ((c.tc : Thread nD τ).loc main_v171) = (fun _ => (refInput m c).meanLoss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨((h c).1.trans (val_main_v171_eq (F := Ideal) (StableHlo.launchContents m c))).trans
      (funext fun i => RI.mean_value (refInput m c) (hA c) i), (h c).2⟩)
    (Cert.ReferenceIdeal.Value.run m ρ)

end Reference

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.FrameKI
public import proofs.«01_k».proof.Proof.FrameKB
public import proofs.«01_k».proof.Proof.Tame
public import proofs.«01_k».proof.Proof.Value
public import Idealize.ShloMosaic.Adequacy
public import Idealize.ShloMosaic.Init

@[expose] public section

noncomputable section

namespace Cert.Proof

open Idealize.ShloMosaic Idealize.SL.Sem Idealize.ShloMosaic.TcCoe

/-- Arguments that agree are one input. -/
theorem input_eq
    (A A' : Input) (h0 : A'.ab = A.ab) (h1 : A'.ang = A.ang) (h2 : A'.hm = A.hm)
    (h3 : A'.tab = A.tab) (h4 : A'.tang = A.tang) (h5 : A'.thm = A.thm) (h6 : A'.ind = A.ind) (h7 : A'.mask = A.mask) :
    A' = A := by
  cases A
  cases A'
  simp only at h0 h1 h2 h3 h4 h5 h6 h7
  subst h0 h1 h2 h3 h4 h5 h6 h7
  rfl

/-- The two programs end with one mean loss. -/
theorem algebraic : Cert.algebraic_KernelIdeal_ReferenceIdeal_pre_tame
    (hKernelIdeal := Cert.KernelIdeal.Gen.facts) (hReferenceIdeal := Cert.ReferenceIdeal.Gen.facts)
    (hPre_tame := Cert.Pre_tame.Gen.facts) := by
  intro m g m' g' hpre heq
  have hA := fun c => tame_of_pre (hPre := Cert.Pre_tame.Gen.facts) m hpre c
  have hin : ∀ c, refInput m' c = KI.input m c := fun c =>
    input_eq (KI.input m c) (refInput m' c) (heq c).1 (heq c).2.1 (heq c).2.2.1 (heq c).2.2.2.1 (heq c).2.2.2.2.1
      (heq c).2.2.2.2.2.1 (heq c).2.2.2.2.2.2.1 (heq c).2.2.2.2.2.2.2
  refine ⟨kernelValue m, kernel_run m g, ?_⟩
  refine (θ_run Cert.ReferenceIdeal.defs _ _).mono (fun r h c => ⟨(h c).1.trans ?_, (h c).2⟩)
    (reference_run m' g' fun c => (hin c).symm ▸ hA c)
  exact (congrArg (fun A : Input => fun _ => A.meanLoss) (hin c)).trans (kernelValue_eq m c (hA c)).symm

/-- Everything the certificate claims. -/
theorem claim : Cert.Claim := ⟨Cert.Kernel.Gen.facts, Cert.KernelIdeal.Gen.facts, Cert.ReferenceIdeal.Gen.facts,
  Cert.Pre_tame.Gen.facts,
  fun m ρ _ => KB.frame m ρ, fun m ρ _ => KI.frame m ρ, fun m ρ _ => KI.frame m ρ,
  fun m ρ _ => (θ_run Cert.ReferenceIdeal.defs _ _).mono
    (fun r h => ⟨fun c => (h c).2, sem_eq_zero_of_no_sems (by decide) r.2⟩) (Cert.ReferenceIdeal.Value.run m ρ),
  fun m ρ _ => (θ_run Cert.ReferenceIdeal.defs _ _).mono
    (fun r h => ⟨fun c => (h c).2, sem_eq_zero_of_no_sems (by decide) r.2⟩) (Cert.ReferenceIdeal.Value.run m ρ),
  trivial, algebraic⟩

end Cert.Proof

end
